-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane [hPre_sane : Cert.Pre_sane.Facts] (m : (ℓ : Loc Cert.KernelIdeal.nD Cert.KernelIdeal.τ Cert.KernelIdeal.sig) → Buf (Elt Ideal) ℓ) : Prop :=
  ∀ c : Dev Cert.KernelIdeal.nD,
    (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_SoftenedIdeal (m : (ℓ : Loc Cert.SoftenedIdeal.nD Cert.SoftenedIdeal.τ Cert.SoftenedIdeal.sig) → Buf (Elt Ideal) ℓ) : Prop :=
  True

def Pre_SoftenedIdeal_sane [hPre_sane : Cert.Pre_sane.Facts] (m : (ℓ : Loc Cert.SoftenedIdeal.nD Cert.SoftenedIdeal.τ Cert.SoftenedIdeal.sig) → Buf (Elt Ideal) ℓ) : Prop :=
  ∀ c : Dev Cert.SoftenedIdeal.nD,
    (Cert.Pre_sane.fn (F := Ideal) (m ((c.tc : Thread Cert.SoftenedIdeal.nD Cert.SoftenedIdeal.τ).loc Cert.SoftenedIdeal.main_arg0)) (m ((c.tc : Thread Cert.SoftenedIdeal.nD Cert.SoftenedIdeal.τ).loc Cert.SoftenedIdeal.main_arg1)) (m ((c.tc : Thread Cert.SoftenedIdeal.nD Cert.SoftenedIdeal.τ).loc Cert.SoftenedIdeal.main_arg2)) (m ((c.tc : Thread Cert.SoftenedIdeal.nD Cert.SoftenedIdeal.τ).loc Cert.SoftenedIdeal.main_arg3)) (m ((c.tc : Thread Cert.SoftenedIdeal.nD Cert.SoftenedIdeal.τ).loc Cert.SoftenedIdeal.main_arg4)) (m ((c.tc : Thread Cert.SoftenedIdeal.nD Cert.SoftenedIdeal.τ).loc Cert.SoftenedIdeal.main_arg5))).1 = (fun _ => 1#1)
    ∧ (Cert.Pre_sane.fn (F := Ideal) (m ((c.tc : Thread Cert.SoftenedIdeal.nD Cert.SoftenedIdeal.τ).loc Cert.SoftenedIdeal.main_arg0)) (m ((c.tc : Thread Cert.SoftenedIdeal.nD Cert.SoftenedIdeal.τ).loc Cert.SoftenedIdeal.main_arg1)) (m ((c.tc : Thread Cert.SoftenedIdeal.nD Cert.SoftenedIdeal.τ).loc Cert.SoftenedIdeal.main_arg2)) (m ((c.tc : Thread Cert.SoftenedIdeal.nD Cert.SoftenedIdeal.τ).loc Cert.SoftenedIdeal.main_arg3)) (m ((c.tc : Thread Cert.SoftenedIdeal.nD Cert.SoftenedIdeal.τ).loc Cert.SoftenedIdeal.main_arg4)) (m ((c.tc : Thread Cert.SoftenedIdeal.nD Cert.SoftenedIdeal.τ).loc Cert.SoftenedIdeal.main_arg5))).2.1 = (fun _ => 1#1)
    ∧ (Cert.Pre_sane.fn (F := Ideal) (m ((c.tc : Thread Cert.SoftenedIdeal.nD Cert.SoftenedIdeal.τ).loc Cert.SoftenedIdeal.main_arg0)) (m ((c.tc : Thread Cert.SoftenedIdeal.nD Cert.SoftenedIdeal.τ).loc Cert.SoftenedIdeal.main_arg1)) (m ((c.tc : Thread Cert.SoftenedIdeal.nD Cert.SoftenedIdeal.τ).loc Cert.SoftenedIdeal.main_arg2)) (m ((c.tc : Thread Cert.SoftenedIdeal.nD Cert.SoftenedIdeal.τ).loc Cert.SoftenedIdeal.main_arg3)) (m ((c.tc : Thread Cert.SoftenedIdeal.nD Cert.SoftenedIdeal.τ).loc Cert.SoftenedIdeal.main_arg4)) (m ((c.tc : Thread Cert.SoftenedIdeal.nD Cert.SoftenedIdeal.τ).loc Cert.SoftenedIdeal.main_arg5))).2.2 = (fun _ => 1#1)

def Pre_Simple (m : (ℓ : Loc Cert.Simple.nD Cert.Simple.τ Cert.Simple.sig) → Buf (Elt Bits) ℓ) : Prop :=
  True

def Pre_SimpleIdeal (m : (ℓ : Loc Cert.SimpleIdeal.nD Cert.SimpleIdeal.τ Cert.SimpleIdeal.sig) → Buf (Elt Ideal) ℓ) : Prop :=
  True

def Pre_SimpleIdeal_sane [hPre_sane : Cert.Pre_sane.Facts] (m : (ℓ : Loc Cert.SimpleIdeal.nD Cert.SimpleIdeal.τ Cert.SimpleIdeal.sig) → Buf (Elt Ideal) ℓ) : Prop :=
  ∀ c : Dev Cert.SimpleIdeal.nD,
    (Cert.Pre_sane.fn (F := Ideal) (m ((c.tc : Thread Cert.SimpleIdeal.nD Cert.SimpleIdeal.τ).loc Cert.SimpleIdeal.main_arg0)) (m ((c.tc : Thread Cert.SimpleIdeal.nD Cert.SimpleIdeal.τ).loc Cert.SimpleIdeal.main_arg1)) (m ((c.tc : Thread Cert.SimpleIdeal.nD Cert.SimpleIdeal.τ).loc Cert.SimpleIdeal.main_arg2)) (m ((c.tc : Thread Cert.SimpleIdeal.nD Cert.SimpleIdeal.τ).loc Cert.SimpleIdeal.main_arg3)) (m ((c.tc : Thread Cert.SimpleIdeal.nD Cert.SimpleIdeal.τ).loc Cert.SimpleIdeal.main_arg4)) (m ((c.tc : Thread Cert.SimpleIdeal.nD Cert.SimpleIdeal.τ).loc Cert.SimpleIdeal.main_arg5))).1 = (fun _ => 1#1)
    ∧ (Cert.Pre_sane.fn (F := Ideal) (m ((c.tc : Thread Cert.SimpleIdeal.nD Cert.SimpleIdeal.τ).loc Cert.SimpleIdeal.main_arg0)) (m ((c.tc : Thread Cert.SimpleIdeal.nD Cert.SimpleIdeal.τ).loc Cert.SimpleIdeal.main_arg1)) (m ((c.tc : Thread Cert.SimpleIdeal.nD Cert.SimpleIdeal.τ).loc Cert.SimpleIdeal.main_arg2)) (m ((c.tc : Thread Cert.SimpleIdeal.nD Cert.SimpleIdeal.τ).loc Cert.SimpleIdeal.main_arg3)) (m ((c.tc : Thread Cert.SimpleIdeal.nD Cert.SimpleIdeal.τ).loc Cert.SimpleIdeal.main_arg4)) (m ((c.tc : Thread Cert.SimpleIdeal.nD Cert.SimpleIdeal.τ).loc Cert.SimpleIdeal.main_arg5))).2.1 = (fun _ => 1#1)
    ∧ (Cert.Pre_sane.fn (F := Ideal) (m ((c.tc : Thread Cert.SimpleIdeal.nD Cert.SimpleIdeal.τ).loc Cert.SimpleIdeal.main_arg0)) (m ((c.tc : Thread Cert.SimpleIdeal.nD Cert.SimpleIdeal.τ).loc Cert.SimpleIdeal.main_arg1)) (m ((c.tc : Thread Cert.SimpleIdeal.nD Cert.SimpleIdeal.τ).loc Cert.SimpleIdeal.main_arg2)) (m ((c.tc : Thread Cert.SimpleIdeal.nD Cert.SimpleIdeal.τ).loc Cert.SimpleIdeal.main_arg3)) (m ((c.tc : Thread Cert.SimpleIdeal.nD Cert.SimpleIdeal.τ).loc Cert.SimpleIdeal.main_arg4)) (m ((c.tc : Thread Cert.SimpleIdeal.nD Cert.SimpleIdeal.τ).loc Cert.SimpleIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane [hPre_sane : Cert.Pre_sane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sane [hKernelIdeal : Cert.KernelIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_SoftenedIdeal [hSoftenedIdeal : Cert.SoftenedIdeal.Facts] : Prop :=
  ∀ (m : (ℓ : Loc Cert.SoftenedIdeal.nD Cert.SoftenedIdeal.τ Cert.SoftenedIdeal.sig) → Buf (Elt Ideal) ℓ) (g : Dev Cert.SoftenedIdeal.nD → PrngReg), Pre_SoftenedIdeal m →
    θ_run (Cert.SoftenedIdeal.defs (F := Ideal)) (onTc (τ := Cert.SoftenedIdeal.τ) (Cert.SoftenedIdeal.main (F := Ideal))) ⟨m, fun _ => 0, g⟩ (fun r => (∀ c : Dev Cert.SoftenedIdeal.nD,
      r.2.mem ((c.tc : Thread Cert.SoftenedIdeal.nD Cert.SoftenedIdeal.τ).loc Cert.SoftenedIdeal.main_arg0) = m ((c.tc : Thread Cert.SoftenedIdeal.nD Cert.SoftenedIdeal.τ).loc Cert.SoftenedIdeal.main_arg0)
      ∧ r.2.mem ((c.tc : Thread Cert.SoftenedIdeal.nD Cert.SoftenedIdeal.τ).loc Cert.SoftenedIdeal.main_arg1) = m ((c.tc : Thread Cert.SoftenedIdeal.nD Cert.SoftenedIdeal.τ).loc Cert.SoftenedIdeal.main_arg1)
      ∧ r.2.mem ((c.tc : Thread Cert.SoftenedIdeal.nD Cert.SoftenedIdeal.τ).loc Cert.SoftenedIdeal.main_arg2) = m ((c.tc : Thread Cert.SoftenedIdeal.nD Cert.SoftenedIdeal.τ).loc Cert.SoftenedIdeal.main_arg2)
      ∧ r.2.mem ((c.tc : Thread Cert.SoftenedIdeal.nD Cert.SoftenedIdeal.τ).loc Cert.SoftenedIdeal.main_arg3) = m ((c.tc : Thread Cert.SoftenedIdeal.nD Cert.SoftenedIdeal.τ).loc Cert.SoftenedIdeal.main_arg3)
      ∧ r.2.mem ((c.tc : Thread Cert.SoftenedIdeal.nD Cert.SoftenedIdeal.τ).loc Cert.SoftenedIdeal.main_arg4) = m ((c.tc : Thread Cert.SoftenedIdeal.nD Cert.SoftenedIdeal.τ).loc Cert.SoftenedIdeal.main_arg4)
      ∧ r.2.mem ((c.tc : Thread Cert.SoftenedIdeal.nD Cert.SoftenedIdeal.τ).loc Cert.SoftenedIdeal.main_arg5) = m ((c.tc : Thread Cert.SoftenedIdeal.nD Cert.SoftenedIdeal.τ).loc Cert.SoftenedIdeal.main_arg5))
      ∧ r.2.sem = fun _ => 0)

def quiescent_SoftenedIdeal_pre_sane [hSoftenedIdeal : Cert.SoftenedIdeal.Facts] [hPre_sane : Cert.Pre_sane.Facts] : Prop :=
  ∀ (m : (ℓ : Loc Cert.SoftenedIdeal.nD Cert.SoftenedIdeal.τ Cert.SoftenedIdeal.sig) → Buf (Elt Ideal) ℓ) (g : Dev Cert.SoftenedIdeal.nD → PrngReg), Pre_SoftenedIdeal_sane m →
    θ_run (Cert.SoftenedIdeal.defs (F := Ideal)) (onTc (τ := Cert.SoftenedIdeal.τ) (Cert.SoftenedIdeal.main (F := Ideal))) ⟨m, fun _ => 0, g⟩ (fun r => (∀ c : Dev Cert.SoftenedIdeal.nD,
      r.2.mem ((c.tc : Thread Cert.SoftenedIdeal.nD Cert.SoftenedIdeal.τ).loc Cert.SoftenedIdeal.main_arg0) = m ((c.tc : Thread Cert.SoftenedIdeal.nD Cert.SoftenedIdeal.τ).loc Cert.SoftenedIdeal.main_arg0)
      ∧ r.2.mem ((c.tc : Thread Cert.SoftenedIdeal.nD Cert.SoftenedIdeal.τ).loc Cert.SoftenedIdeal.main_arg1) = m ((c.tc : Thread Cert.SoftenedIdeal.nD Cert.SoftenedIdeal.τ).loc Cert.SoftenedIdeal.main_arg1)
      ∧ r.2.mem ((c.tc : Thread Cert.SoftenedIdeal.nD Cert.SoftenedIdeal.τ).loc Cert.SoftenedIdeal.main_arg2) = m ((c.tc : Thread Cert.SoftenedIdeal.nD Cert.SoftenedIdeal.τ).loc Cert.SoftenedIdeal.main_arg2)
      ∧ r.2.mem ((c.tc : Thread Cert.SoftenedIdeal.nD Cert.SoftenedIdeal.τ).loc Cert.SoftenedIdeal.main_arg3) = m ((c.tc : Thread Cert.SoftenedIdeal.nD Cert.SoftenedIdeal.τ).loc Cert.SoftenedIdeal.main_arg3)
      ∧ r.2.mem ((c.tc : Thread Cert.SoftenedIdeal.nD Cert.SoftenedIdeal.τ).loc Cert.SoftenedIdeal.main_arg4) = m ((c.tc : Thread Cert.SoftenedIdeal.nD Cert.SoftenedIdeal.τ).loc Cert.SoftenedIdeal.main_arg4)
      ∧ r.2.mem ((c.tc : Thread Cert.SoftenedIdeal.nD Cert.SoftenedIdeal.τ).loc Cert.SoftenedIdeal.main_arg5) = m ((c.tc : Thread Cert.SoftenedIdeal.nD Cert.SoftenedIdeal.τ).loc Cert.SoftenedIdeal.main_arg5))
      ∧ r.2.sem = fun _ => 0)

def quiescent_Simple [hSimple : Cert.Simple.Facts] : Prop :=
  ∀ (m : (ℓ : Loc Cert.Simple.nD Cert.Simple.τ Cert.Simple.sig) → Buf (Elt Bits) ℓ) (g : Dev Cert.Simple.nD → PrngReg), Pre_Simple m →
    θ_run (Cert.Simple.defs (F := Bits)) (onTc (τ := Cert.Simple.τ) (Cert.Simple.main (F := Bits))) ⟨m, fun _ => 0, g⟩ (fun r => (∀ c : Dev Cert.Simple.nD,
      r.2.mem ((c.tc : Thread Cert.Simple.nD Cert.Simple.τ).loc Cert.Simple.main_arg0) = m ((c.tc : Thread Cert.Simple.nD Cert.Simple.τ).loc Cert.Simple.main_arg0)
      ∧ r.2.mem ((c.tc : Thread Cert.Simple.nD Cert.Simple.τ).loc Cert.Simple.main_arg1) = m ((c.tc : Thread Cert.Simple.nD Cert.Simple.τ).loc Cert.Simple.main_arg1)
      ∧ r.2.mem ((c.tc : Thread Cert.Simple.nD Cert.Simple.τ).loc Cert.Simple.main_arg2) = m ((c.tc : Thread Cert.Simple.nD Cert.Simple.τ).loc Cert.Simple.main_arg2)
      ∧ r.2.mem ((c.tc : Thread Cert.Simple.nD Cert.Simple.τ).loc Cert.Simple.main_arg3) = m ((c.tc : Thread Cert.Simple.nD Cert.Simple.τ).loc Cert.Simple.main_arg3)
      ∧ r.2.mem ((c.tc : Thread Cert.Simple.nD Cert.Simple.τ).loc Cert.Simple.main_arg4) = m ((c.tc : Thread Cert.Simple.nD Cert.Simple.τ).loc Cert.Simple.main_arg4)
      ∧ r.2.mem ((c.tc : Thread Cert.Simple.nD Cert.Simple.τ).loc Cert.Simple.main_arg5) = m ((c.tc : Thread Cert.Simple.nD Cert.Simple.τ).loc Cert.Simple.main_arg5))
      ∧ r.2.sem = fun _ => 0)

def quiescent_SimpleIdeal [hSimpleIdeal : Cert.SimpleIdeal.Facts] : Prop :=
  ∀ (m : (ℓ : Loc Cert.SimpleIdeal.nD Cert.SimpleIdeal.τ Cert.SimpleIdeal.sig) → Buf (Elt Ideal) ℓ) (g : Dev Cert.SimpleIdeal.nD → PrngReg), Pre_SimpleIdeal m →
    θ_run (Cert.SimpleIdeal.defs (F := Ideal)) (onTc (τ := Cert.SimpleIdeal.τ) (Cert.SimpleIdeal.main (F := Ideal))) ⟨m, fun _ => 0, g⟩ (fun r => (∀ c : Dev Cert.SimpleIdeal.nD,
      r.2.mem ((c.tc : Thread Cert.SimpleIdeal.nD Cert.SimpleIdeal.τ).loc Cert.SimpleIdeal.main_arg0) = m ((c.tc : Thread Cert.SimpleIdeal.nD Cert.SimpleIdeal.τ).loc Cert.SimpleIdeal.main_arg0)
      ∧ r.2.mem ((c.tc : Thread Cert.SimpleIdeal.nD Cert.SimpleIdeal.τ).loc Cert.SimpleIdeal.main_arg1) = m ((c.tc : Thread Cert.SimpleIdeal.nD Cert.SimpleIdeal.τ).loc Cert.SimpleIdeal.main_arg1)
      ∧ r.2.mem ((c.tc : Thread Cert.SimpleIdeal.nD Cert.SimpleIdeal.τ).loc Cert.SimpleIdeal.main_arg2) = m ((c.tc : Thread Cert.SimpleIdeal.nD Cert.SimpleIdeal.τ).loc Cert.SimpleIdeal.main_arg2)
      ∧ r.2.mem ((c.tc : Thread Cert.SimpleIdeal.nD Cert.SimpleIdeal.τ).loc Cert.SimpleIdeal.main_arg3) = m ((c.tc : Thread Cert.SimpleIdeal.nD Cert.SimpleIdeal.τ).loc Cert.SimpleIdeal.main_arg3)
      ∧ r.2.mem ((c.tc : Thread Cert.SimpleIdeal.nD Cert.SimpleIdeal.τ).loc Cert.SimpleIdeal.main_arg4) = m ((c.tc : Thread Cert.SimpleIdeal.nD Cert.SimpleIdeal.τ).loc Cert.SimpleIdeal.main_arg4)
      ∧ r.2.mem ((c.tc : Thread Cert.SimpleIdeal.nD Cert.SimpleIdeal.τ).loc Cert.SimpleIdeal.main_arg5) = m ((c.tc : Thread Cert.SimpleIdeal.nD Cert.SimpleIdeal.τ).loc Cert.SimpleIdeal.main_arg5))
      ∧ r.2.sem = fun _ => 0)

def quiescent_SimpleIdeal_pre_sane [hSimpleIdeal : Cert.SimpleIdeal.Facts] [hPre_sane : Cert.Pre_sane.Facts] : Prop :=
  ∀ (m : (ℓ : Loc Cert.SimpleIdeal.nD Cert.SimpleIdeal.τ Cert.SimpleIdeal.sig) → Buf (Elt Ideal) ℓ) (g : Dev Cert.SimpleIdeal.nD → PrngReg), Pre_SimpleIdeal_sane m →
    θ_run (Cert.SimpleIdeal.defs (F := Ideal)) (onTc (τ := Cert.SimpleIdeal.τ) (Cert.SimpleIdeal.main (F := Ideal))) ⟨m, fun _ => 0, g⟩ (fun r => (∀ c : Dev Cert.SimpleIdeal.nD,
      r.2.mem ((c.tc : Thread Cert.SimpleIdeal.nD Cert.SimpleIdeal.τ).loc Cert.SimpleIdeal.main_arg0) = m ((c.tc : Thread Cert.SimpleIdeal.nD Cert.SimpleIdeal.τ).loc Cert.SimpleIdeal.main_arg0)
      ∧ r.2.mem ((c.tc : Thread Cert.SimpleIdeal.nD Cert.SimpleIdeal.τ).loc Cert.SimpleIdeal.main_arg1) = m ((c.tc : Thread Cert.SimpleIdeal.nD Cert.SimpleIdeal.τ).loc Cert.SimpleIdeal.main_arg1)
      ∧ r.2.mem ((c.tc : Thread Cert.SimpleIdeal.nD Cert.SimpleIdeal.τ).loc Cert.SimpleIdeal.main_arg2) = m ((c.tc : Thread Cert.SimpleIdeal.nD Cert.SimpleIdeal.τ).loc Cert.SimpleIdeal.main_arg2)
      ∧ r.2.mem ((c.tc : Thread Cert.SimpleIdeal.nD Cert.SimpleIdeal.τ).loc Cert.SimpleIdeal.main_arg3) = m ((c.tc : Thread Cert.SimpleIdeal.nD Cert.SimpleIdeal.τ).loc Cert.SimpleIdeal.main_arg3)
      ∧ r.2.mem ((c.tc : Thread Cert.SimpleIdeal.nD Cert.SimpleIdeal.τ).loc Cert.SimpleIdeal.main_arg4) = m ((c.tc : Thread Cert.SimpleIdeal.nD Cert.SimpleIdeal.τ).loc Cert.SimpleIdeal.main_arg4)
      ∧ r.2.mem ((c.tc : Thread Cert.SimpleIdeal.nD Cert.SimpleIdeal.τ).loc Cert.SimpleIdeal.main_arg5) = m ((c.tc : Thread Cert.SimpleIdeal.nD Cert.SimpleIdeal.τ).loc Cert.SimpleIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sane [hReferenceIdeal : Cert.ReferenceIdeal.Facts] [hPre_sane : Cert.Pre_sane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_SoftenedIdeal_pre_sane [hKernelIdeal : Cert.KernelIdeal.Facts] [hSoftenedIdeal : Cert.SoftenedIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SoftenedIdeal.nD Cert.SoftenedIdeal.τ Cert.SoftenedIdeal.sig) → Buf (Elt Ideal) ℓ) (g' : Dev Cert.SoftenedIdeal.nD → PrngReg), Pre_KernelIdeal_sane m →
    (∀ c : Dev Cert.KernelIdeal.nD,
      m' ((c.tc : Thread Cert.SoftenedIdeal.nD Cert.SoftenedIdeal.τ).loc Cert.SoftenedIdeal.main_arg0) = m ((c.tc : Thread Cert.KernelIdeal.nD Cert.KernelIdeal.τ).loc Cert.KernelIdeal.main_arg0)
      ∧ m' ((c.tc : Thread Cert.SoftenedIdeal.nD Cert.SoftenedIdeal.τ).loc Cert.SoftenedIdeal.main_arg1) = m ((c.tc : Thread Cert.KernelIdeal.nD Cert.KernelIdeal.τ).loc Cert.KernelIdeal.main_arg1)
      ∧ m' ((c.tc : Thread Cert.SoftenedIdeal.nD Cert.SoftenedIdeal.τ).loc Cert.SoftenedIdeal.main_arg2) = m ((c.tc : Thread Cert.KernelIdeal.nD Cert.KernelIdeal.τ).loc Cert.KernelIdeal.main_arg2)
      ∧ m' ((c.tc : Thread Cert.SoftenedIdeal.nD Cert.SoftenedIdeal.τ).loc Cert.SoftenedIdeal.main_arg3) = m ((c.tc : Thread Cert.KernelIdeal.nD Cert.KernelIdeal.τ).loc Cert.KernelIdeal.main_arg3)
      ∧ m' ((c.tc : Thread Cert.SoftenedIdeal.nD Cert.SoftenedIdeal.τ).loc Cert.SoftenedIdeal.main_arg4) = m ((c.tc : Thread Cert.KernelIdeal.nD Cert.KernelIdeal.τ).loc Cert.KernelIdeal.main_arg4)
      ∧ m' ((c.tc : Thread Cert.SoftenedIdeal.nD Cert.SoftenedIdeal.τ).loc Cert.SoftenedIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.SoftenedIdeal.defs (F := Ideal)) (onTc (τ := Cert.SoftenedIdeal.τ) (Cert.SoftenedIdeal.main (F := Ideal))) ⟨m', fun _ => 0, g'⟩ (fun r => ∀ c : Dev Cert.SoftenedIdeal.nD,
          r.2.mem ((c.tc : Thread Cert.SoftenedIdeal.nD Cert.SoftenedIdeal.τ).loc Cert.SoftenedIdeal.main_v30) = v0 c
          ∧ r.2.mem ((c.tc : Thread Cert.SoftenedIdeal.nD Cert.SoftenedIdeal.τ).loc Cert.SoftenedIdeal.main_arg0) = m' ((c.tc : Thread Cert.SoftenedIdeal.nD Cert.SoftenedIdeal.τ).loc Cert.SoftenedIdeal.main_arg0)
          ∧ r.2.mem ((c.tc : Thread Cert.SoftenedIdeal.nD Cert.SoftenedIdeal.τ).loc Cert.SoftenedIdeal.main_arg1) = m' ((c.tc : Thread Cert.SoftenedIdeal.nD Cert.SoftenedIdeal.τ).loc Cert.SoftenedIdeal.main_arg1)
          ∧ r.2.mem ((c.tc : Thread Cert.SoftenedIdeal.nD Cert.SoftenedIdeal.τ).loc Cert.SoftenedIdeal.main_arg2) = m' ((c.tc : Thread Cert.SoftenedIdeal.nD Cert.SoftenedIdeal.τ).loc Cert.SoftenedIdeal.main_arg2)
          ∧ r.2.mem ((c.tc : Thread Cert.SoftenedIdeal.nD Cert.SoftenedIdeal.τ).loc Cert.SoftenedIdeal.main_arg3) = m' ((c.tc : Thread Cert.SoftenedIdeal.nD Cert.SoftenedIdeal.τ).loc Cert.SoftenedIdeal.main_arg3)
          ∧ r.2.mem ((c.tc : Thread Cert.SoftenedIdeal.nD Cert.SoftenedIdeal.τ).loc Cert.SoftenedIdeal.main_arg4) = m' ((c.tc : Thread Cert.SoftenedIdeal.nD Cert.SoftenedIdeal.τ).loc Cert.SoftenedIdeal.main_arg4)
          ∧ r.2.mem ((c.tc : Thread Cert.SoftenedIdeal.nD Cert.SoftenedIdeal.τ).loc Cert.SoftenedIdeal.main_arg5) = m' ((c.tc : Thread Cert.SoftenedIdeal.nD Cert.SoftenedIdeal.τ).loc Cert.SoftenedIdeal.main_arg5))

def holds_KernelIdeal_close_pre_sane [hKernelIdeal : Cert.KernelIdeal.Facts] [hPre_sane : Cert.Pre_sane.Facts] [hPost_close : Cert.Post_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (r.2.mem ((c.tc : Thread Cert.KernelIdeal.nD Cert.KernelIdeal.τ).loc Cert.KernelIdeal.main_v33))) = (fun _ => 1#1))

def preserves_Simple_SimpleIdeal : Prop :=
  True

def algebraic_SimpleIdeal_ReferenceIdeal_pre_sane [hSimpleIdeal : Cert.SimpleIdeal.Facts] [hReferenceIdeal : Cert.ReferenceIdeal.Facts] [hPre_sane : Cert.Pre_sane.Facts] : Prop :=
  ∀ (m : (ℓ : Loc Cert.SimpleIdeal.nD Cert.SimpleIdeal.τ Cert.SimpleIdeal.sig) → Buf (Elt Ideal) ℓ) (g : Dev Cert.SimpleIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_SimpleIdeal_sane m →
    (∀ c : Dev Cert.SimpleIdeal.nD,
      m' ((c.tc : Thread Cert.ReferenceIdeal.nD Cert.ReferenceIdeal.τ).loc Cert.ReferenceIdeal.main_arg0) = m ((c.tc : Thread Cert.SimpleIdeal.nD Cert.SimpleIdeal.τ).loc Cert.SimpleIdeal.main_arg0)
      ∧ m' ((c.tc : Thread Cert.ReferenceIdeal.nD Cert.ReferenceIdeal.τ).loc Cert.ReferenceIdeal.main_arg1) = m ((c.tc : Thread Cert.SimpleIdeal.nD Cert.SimpleIdeal.τ).loc Cert.SimpleIdeal.main_arg1)
      ∧ m' ((c.tc : Thread Cert.ReferenceIdeal.nD Cert.ReferenceIdeal.τ).loc Cert.ReferenceIdeal.main_arg2) = m ((c.tc : Thread Cert.SimpleIdeal.nD Cert.SimpleIdeal.τ).loc Cert.SimpleIdeal.main_arg2)
      ∧ m' ((c.tc : Thread Cert.ReferenceIdeal.nD Cert.ReferenceIdeal.τ).loc Cert.ReferenceIdeal.main_arg3) = m ((c.tc : Thread Cert.SimpleIdeal.nD Cert.SimpleIdeal.τ).loc Cert.SimpleIdeal.main_arg3)
      ∧ m' ((c.tc : Thread Cert.ReferenceIdeal.nD Cert.ReferenceIdeal.τ).loc Cert.ReferenceIdeal.main_arg4) = m ((c.tc : Thread Cert.SimpleIdeal.nD Cert.SimpleIdeal.τ).loc Cert.SimpleIdeal.main_arg4)
      ∧ m' ((c.tc : Thread Cert.ReferenceIdeal.nD Cert.ReferenceIdeal.τ).loc Cert.ReferenceIdeal.main_arg5) = m ((c.tc : Thread Cert.SimpleIdeal.nD Cert.SimpleIdeal.τ).loc Cert.SimpleIdeal.main_arg5)) →
    ∃ (v0 : (c : Dev Cert.SimpleIdeal.nD) → Buf (Elt Ideal) ((c.tc : Thread Cert.SimpleIdeal.nD Cert.SimpleIdeal.τ).loc Cert.SimpleIdeal.main_v18)),
      θ_run (Cert.SimpleIdeal.defs (F := Ideal)) (onTc (τ := Cert.SimpleIdeal.τ) (Cert.SimpleIdeal.main (F := Ideal))) ⟨m, fun _ => 0, g⟩ (fun r => ∀ c : Dev Cert.SimpleIdeal.nD,
          r.2.mem ((c.tc : Thread Cert.SimpleIdeal.nD Cert.SimpleIdeal.τ).loc Cert.SimpleIdeal.main_v18) = v0 c
          ∧ r.2.mem ((c.tc : Thread Cert.SimpleIdeal.nD Cert.SimpleIdeal.τ).loc Cert.SimpleIdeal.main_arg0) = m ((c.tc : Thread Cert.SimpleIdeal.nD Cert.SimpleIdeal.τ).loc Cert.SimpleIdeal.main_arg0)
          ∧ r.2.mem ((c.tc : Thread Cert.SimpleIdeal.nD Cert.SimpleIdeal.τ).loc Cert.SimpleIdeal.main_arg1) = m ((c.tc : Thread Cert.SimpleIdeal.nD Cert.SimpleIdeal.τ).loc Cert.SimpleIdeal.main_arg1)
          ∧ r.2.mem ((c.tc : Thread Cert.SimpleIdeal.nD Cert.SimpleIdeal.τ).loc Cert.SimpleIdeal.main_arg2) = m ((c.tc : Thread Cert.SimpleIdeal.nD Cert.SimpleIdeal.τ).loc Cert.SimpleIdeal.main_arg2)
          ∧ r.2.mem ((c.tc : Thread Cert.SimpleIdeal.nD Cert.SimpleIdeal.τ).loc Cert.SimpleIdeal.main_arg3) = m ((c.tc : Thread Cert.SimpleIdeal.nD Cert.SimpleIdeal.τ).loc Cert.SimpleIdeal.main_arg3)
          ∧ r.2.mem ((c.tc : Thread Cert.SimpleIdeal.nD Cert.SimpleIdeal.τ).loc Cert.SimpleIdeal.main_arg4) = m ((c.tc : Thread Cert.SimpleIdeal.nD Cert.SimpleIdeal.τ).loc Cert.SimpleIdeal.main_arg4)
          ∧ r.2.mem ((c.tc : Thread Cert.SimpleIdeal.nD Cert.SimpleIdeal.τ).loc Cert.SimpleIdeal.main_arg5) = m ((c.tc : Thread Cert.SimpleIdeal.nD Cert.SimpleIdeal.τ).loc Cert.SimpleIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hSoftenedIdeal : Cert.SoftenedIdeal.Facts) (hSimple : Cert.Simple.Facts) (hSimpleIdeal : Cert.SimpleIdeal.Facts) (hReferenceIdeal : Cert.ReferenceIdeal.Facts) (hPre_sane : Cert.Pre_sane.Facts) (hPost_close : Cert.Post_close.Facts),
    quiescent_Kernel (hKernel := hKernel)
    ∧ quiescent_KernelIdeal (hKernelIdeal := hKernelIdeal)
    ∧ quiescent_KernelIdeal_pre_sane (hKernelIdeal := hKernelIdeal) (hPre_sane := hPre_sane)
    ∧ quiescent_SoftenedIdeal (hSoftenedIdeal := hSoftenedIdeal)
    ∧ quiescent_SoftenedIdeal_pre_sane (hSoftenedIdeal := hSoftenedIdeal) (hPre_sane := hPre_sane)
    ∧ quiescent_Simple (hSimple := hSimple)
    ∧ quiescent_SimpleIdeal (hSimpleIdeal := hSimpleIdeal)
    ∧ quiescent_SimpleIdeal_pre_sane (hSimpleIdeal := hSimpleIdeal) (hPre_sane := hPre_sane)
    ∧ quiescent_ReferenceIdeal (hReferenceIdeal := hReferenceIdeal)
    ∧ quiescent_ReferenceIdeal_pre_sane (hReferenceIdeal := hReferenceIdeal) (hPre_sane := hPre_sane)
    ∧ preserves_Kernel_KernelIdeal
    ∧ algebraic_KernelIdeal_SoftenedIdeal_pre_sane (hKernelIdeal := hKernelIdeal) (hSoftenedIdeal := hSoftenedIdeal) (hPre_sane := hPre_sane)
    ∧ holds_KernelIdeal_close_pre_sane (hKernelIdeal := hKernelIdeal) (hPre_sane := hPre_sane) (hPost_close := hPost_close)
    ∧ preserves_Simple_SimpleIdeal
    ∧ algebraic_SimpleIdeal_ReferenceIdeal_pre_sane (hSimpleIdeal := hSimpleIdeal) (hReferenceIdeal := hReferenceIdeal) (hPre_sane := hPre_sane)
-- ==== Post_close.lean ====
abbrev S8x2048 : Shape := ⟨2, ![8, 2048]⟩
abbrev S8x2048x3 : Shape := ⟨3, ![8, 2048, 3]⟩
abbrev S8x2048x2048 : Shape := ⟨3, ![8, 2048, 2048]⟩
abbrev S100 : Shape := ⟨1, ![100]⟩
abbrev S_ : Shape := ⟨0, ![]⟩
abbrev S8 : Shape := ⟨1, ![8]⟩
abbrev S8x2048x1 : Shape := ⟨3, ![8, 2048, 1]⟩
abbrev S8x1x2048 : Shape := ⟨3, ![8, 1, 2048]⟩
abbrev S1 : Shape := ⟨1, ![1]⟩
abbrev S1x1x1 : Shape := ⟨3, ![1, 1, 1]⟩

class Facts : Prop where
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S8x2048x1_S8x2048x2048_0_1_2 : S8x2048x1.BroadcastsInDim S8x2048x2048 (![0, 1, 2] : Fin 3 → Fin S8x2048x2048.rank)
  reducesTo_S8x2048x2048_S8_d1_2 : S8x2048x2048.ReducesTo [1, 2] S8
  h_S_ : 0 < S_.numel
  bcast_S_S8 : S_.BroadcastsInDim S8 (![] : Fin 0 → Fin S8.rank)
  reducesTo_S8x2048x3_S8x2048_d2 : S8x2048x3.ReducesTo [2] S8x2048
  bcast_S_S8x2048x2048 : S_.BroadcastsInDim S8x2048x2048 (![] : Fin 0 → Fin S8x2048x2048.rank)
  bcast_S_S8x2048 : S_.BroadcastsInDim S8x2048 (![] : Fin 0 → Fin S8x2048.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  reducesTo_S8x2048_S8_d1 : S8x2048.ReducesTo [1] S8
  dot_S8x2048x3_S8x2048x3_S8x2048x2048_2_2_1_1_0_0_wf : DotDims.WF S8x2048x3 S8x2048x3 S8x2048x2048 [2] [2] [1] [1] [0] [0]
  gather_S100_S8x2048x1_S8x2048_n_0_n_n_0_2_1_wf : GatherDims.WF S100 S8x2048x1 S8x2048 [] [0] [] [0] [] 2 ![1]

variable [Facts]

def dot_S8x2048x3_S8x2048x3_S8x2048x2048_2_2_1_1_0_0 : DotDims S8x2048x3 S8x2048x3 S8x2048x2048 where
  lhsContracting := [2]
  rhsContracting := [2]
  lhsNonContracting := [1]
  rhsNonContracting := [1]
  lhsBatch := [0]
  rhsBatch := [0]
  wf := dot_S8x2048x3_S8x2048x3_S8x2048x2048_2_2_1_1_0_0_wf
def gather_S100_S8x2048x1_S8x2048_n_0_n_n_0_2_1 : GatherDims S100 S8x2048x1 S8x2048 where
  offsetDims := []
  collapsedSliceDims := [0]
  operandBatchingDims := []
  startIndicesBatchingDims := []
  startIndexMap := [0]
  indexVectorDim := 2
  sliceSizes := ![1]
  wf := gather_S100_S8x2048x1_S8x2048_n_0_n_n_0_2_1_wf
def fn_where {F : FTy → Type} [FloatOps F] (arg0 : IVec S8x2048x1 1) (arg1 : FVec F S_ .f32) (arg2 : FVec F S_ .f32) : FVec F S8x2048x1 .f32 :=
  let v0 : FVec F S8x2048x1 .f32 := broadcastInDim S8x2048x1 ![] bcast_S_S8x2048x1 arg1
  let v1 : FVec F S8x2048x1 .f32 := broadcastInDim S8x2048x1 ![] bcast_S_S8x2048x1 arg2
  let v2 : FVec F S8x2048x1 .f32 := select arg0 v0 v1
  v2

def fn_where_0 {F : FTy → Type} [FloatOps F] (arg0 : IVec S8x2048x2048 1) (arg1 : FVec F S8x2048x2048 .f32) (arg2 : FVec F S_ .f32) : FVec F S8x2048x2048 .f32 :=
  let v0 : FVec F S_ .f32 := id arg2
  let v1 : FVec F S8x2048x2048 .f32 := broadcastInDim S8x2048x2048 ![] bcast_S_S8x2048x2048 v0
  let v2 : FVec F S8x2048x2048 .f32 := select arg0 arg1 v1
  v2

def fn_where_1 {F : FTy → Type} [FloatOps F] (arg0 : IVec S8x2048 1) (arg1 : IVec S8x2048 32) (arg2 : IVec S8x2048 32) : IVec S8x2048 32 :=
  let v0 : IVec S8x2048 32 := select arg0 arg1 arg2
  v0

def fn_take {F : FTy → Type} [FloatOps F] (arg0 : FVec F S100 .f32) (arg1 : IVec S8x2048 32) : FVec F S8x2048 .f32 :=
  let c : IVec S_ 32 := constantI S_ 32 0#32
  let v0 : IVec S8x2048 32 := broadcastInDim S8x2048 ![] bcast_S_S8x2048 c
  let v1 : IVec S8x2048 1 := cmpi .slt arg1 v0
  let c_0 : IVec S_ 32 := constantI S_ 32 100#32
  let v2 : IVec S8x2048 32 := broadcastInDim S8x2048 ![] bcast_S_S8x2048 c_0
  let v3 : IVec S8x2048 32 := addi arg1 v2
  let v4 : IVec S8x2048 32 := fn_where_1 (F := F) v1 v3 arg1
  let v5 : IVec S8x2048x1 32 := broadcastInDim S8x2048x1 ![0, 1] bcast_S8x2048_S8x2048x1_0_1 v4
  let c_1 : IVec S1 32 := constantI S1 32 99#32
  let c_2 : IVec S_ 32 := constantI S_ 32 0#32
  let v6 : IVec S8x2048x1 32 := broadcastInDim S8x2048x1 ![] bcast_S_S8x2048x1 c_2
  let v7 : IVec S8x2048x1 1 := cmpi .sge v5 v6
  let v8 : IVec S1x1x1 32 := broadcastInDim S1x1x1 ![2] bcast_S1_S1x1x1_2 c_1
  let v9 : IVec S8x2048x1 32 := broadcastInDim S8x2048x1 ![0, 1, 2] bcast_S1x1x1_S8x2048x1_0_1_2 v8
  let v10 : IVec S8x2048x1 1 := cmpi .sle v5 v9
  let v11 : IVec S8x2048x1 1 := andi v7 v10
  let c_3 : IVec S_ 1 := constantI S_ 1 1#1
  let v12 : IVec S8x2048 1 := (fun x v => Host.reduce IntOp.andi x v reducesTo_S8x2048x1_S8x2048_d2 h_S_) v11 c_3
  let v13 : FVec F S8x2048 .f32 := (fun x i => Host.gather gather_S100_S8x2048x1_S8x2048_n_0_n_n_0_2_1 x i) arg0 v5
  let cst : FVec F S_ .f32 := constant S_ .f32 0x7FC00000#32
  let v14 : FVec F S8x2048 .f32 := broadcastInDim S8x2048 ![] bcast_S_S8x2048 cst
  let v15 : FVec F S8x2048 .f32 := select v12 v13 v14
  v15

def fn_part2 {F : FTy → Type} [FloatOps F] (main_arg0 : IVec S8x2048 32) (main_arg4 : FVec F S100 .f32) (main_arg5 : FVec F S_ .f32) (main_arg6 : FVec F S8 .f32) (main_v14 : FVec F S8 .f32) (main_v15 : FVec F S8x2048 .f32) (main_v22 : FVec F S8x2048x2048 .f32) (main_v35 : FVec F S8x2048x2048 .f32) (main_v38 : FVec F S8x2048x2048 .f32) (main_cst_7 : FVec F S_ .f32) : IVec S8 1 :=
  let main_v39 : FVec F S8x2048x2048 .f32 := broadcastInDim S8x2048x2048 ![] bcast_S_S8x2048x2048 main_cst_7
  let main_v40 : IVec S8x2048x2048 1 := cmpf .ogt main_v35 main_v39
  let main_v41 : FVec F S8x2048x2048 .f32 := Host.sqrt main_v38
  let main_cst_8 : FVec F S_ .f32 := constant S_ .f32 0x00000000#32
  let main_v42 : FVec F S8x2048x2048 .f32 := fn_where_0 (F := F) main_v40 main_v41 main_cst_8
  let main_v43 : FVec F S8x2048 .f32 := fn_take (F := F) main_arg4 main_arg0
  let main_v44 : FVec F S8x2048 .f32 := mulf main_v43 main_v15
  let main_cst_9 : FVec F S_ .f32 := constant S_ .f32 0x00000000#32
  let main_v45 : FVec F S8 .f32 := (fun x v => Host.reduceAdd x v reducesTo_S8x2048_S8_d1 h_S_) main_v44 main_cst_9
  let main_v46 : FVec F S8x2048x2048 .f32 := mulf main_v22 main_v42
  let main_cst_10 : FVec F S_ .f32 := constant S_ .f32 0x00000000#32
  let main_v47 : FVec F S8 .f32 := (fun x v => Host.reduceAdd x v reducesTo_S8x2048x2048_S8_d1_2 h_S_) main_v46 main_cst_10
  let main_v48 : FVec F S8 .f32 := broadcastInDim S8 ![] bcast_S_S8 main_arg5
  let main_v49 : FVec F S8 .f32 := mulf main_v48 main_v47
  let main_v50 : FVec F S8 .f32 := addf main_v45 main_v49
  let main_v51 : FVec F S8 .f32 := subf main_v50 main_v14
  let main_v52 : IVec S8 1 := cmpf .ole main_v51 main_arg6
  let main_v53 : FVec F S8 .f32 := addf main_v50 main_v14
  let main_v54 : IVec S8 1 := cmpf .ole main_arg6 main_v53
  let main_v55 : IVec S8 1 := andi main_v52 main_v54
  main_v55

def fn_part1 {F : FTy → Type} [FloatOps F] (main_arg0 : IVec S8x2048 32) (main_arg1 : FVec F S8x2048x3 .f32) (main_arg4 : FVec F S100 .f32) (main_arg5 : FVec F S_ .f32) (main_arg6 : FVec F S8 .f32) (main_v14 : FVec F S8 .f32) (main_v15 : FVec F S8x2048 .f32) (main_v19 : FVec F S8x2048x2048 .f32) (main_v20 : FVec F S8x1x2048 .f32) : IVec S8 1 :=
  let main_v21 : FVec F S8x2048x2048 .f32 := broadcastInDim S8x2048x2048 ![0, 1, 2] bcast_S8x1x2048_S8x2048x2048_0_1_2 main_v20
  let main_v22 : FVec F S8x2048x2048 .f32 := mulf main_v19 main_v21
  let main_v23 : FVec F S8x2048x3 .f32 := mulf main_arg1 main_arg1
  let main_cst_2 : FVec F S_ .f32 := constant S_ .f32 0x00000000#32
  let main_v24 : FVec F S8x2048 .f32 := (fun x v => Host.reduceAdd x v reducesTo_S8x2048x3_S8x2048_d2 h_S_) main_v23 main_cst_2
  let main_v25 : FVec F S8x2048x2048 .f32 := (fun l r => Host.dotGeneral dot_S8x2048x3_S8x2048x3_S8x2048x2048_2_2_1_1_0_0 none l r) main_arg1 main_arg1
  let main_v26 : FVec F S8x2048x1 .f32 := broadcastInDim S8x2048x1 ![0, 1] bcast_S8x2048_S8x2048x1_0_1 main_v24
  let main_v27 : FVec F S8x1x2048 .f32 := broadcastInDim S8x1x2048 ![0, 2] bcast_S8x2048_S8x1x2048_0_2 main_v24
  let main_v28 : FVec F S8x2048x2048 .f32 := broadcastInDim S8x2048x2048 ![0, 1, 2] bcast_S8x2048x1_S8x2048x2048_0_1_2 main_v26
  let main_v29 : FVec F S8x2048x2048 .f32 := broadcastInDim S8x2048x2048 ![0, 1, 2] bcast_S8x1x2048_S8x2048x2048_0_1_2 main_v27
  let main_v30 : FVec F S8x2048x2048 .f32 := addf main_v28 main_v29
  let main_cst_3 : FVec F S_ .f32 := constant S_ .f32 0x40000000#32
  let main_v31 : FVec F S8x2048x2048 .f32 := broadcastInDim S8x2048x2048 ![] bcast_S_S8x2048x2048 main_cst_3
  let main_v32 : FVec F S8x2048x2048 .f32 := mulf main_v31 main_v25
  let main_v33 : FVec F S8x2048x2048 .f32 := subf main_v30 main_v32
  let main_cst_4 : FVec F S_ .f32 := constant S_ .f32 0x00000000#32
  let main_v34 : FVec F S8x2048x2048 .f32 := broadcastInDim S8x2048x2048 ![] bcast_S_S8x2048x2048 main_cst_4
  let main_v35 : FVec F S8x2048x2048 .f32 := maximumf main_v33 main_v34
  let main_cst_5 : FVec F S_ .f32 := constant S_ .f32 0x00000000#32
  let main_v36 : FVec F S8x2048x2048 .f32 := broadcastInDim S8x2048x2048 ![] bcast_S_S8x2048x2048 main_cst_5
  let main_v37 : IVec S8x2048x2048 1 := cmpf .ogt main_v35 main_v36
  let main_cst_6 : FVec F S_ .f32 := constant S_ .f32 0x3F800000#32
  let main_v38 : FVec F S8x2048x2048 .f32 := fn_where_0 (F := F) main_v37 main_v35 main_cst_6
  let main_cst_7 : FVec F S_ .f32 := constant S_ .f32 0x00000000#32
  fn_part2 (F := F) main_arg0 main_arg4 main_arg5 main_arg6 main_v14 main_v15 main_v22 main_v35 main_v38 main_cst_7

def fn {F : FTy → Type} [FloatOps F] (main_arg0 : IVec S8x2048 32) (main_arg1 : FVec F S8x2048x3 .f32) (main_arg2 : IVec S8x2048x2048 32) (main_arg3 : IVec S8x2048 1) (main_arg4 : FVec F S100 .f32) (main_arg5 : FVec F S_ .f32) (main_arg6 : FVec F S8 .f32) : IVec S8 1 :=
  let main_v0 : FVec F S8x2048 .f32 := uitofp .f32 main_arg3
  let main_v1 : IVec S8x2048x1 1 := broadcastInDim S8x2048x1 ![0, 1] bcast_S8x2048_S8x2048x1_0_1 main_arg3
  let main_cst : FVec F S_ .f32 := constant S_ .f32 0x3C67D567#32
  let main_cst_0 : FVec F S_ .f32 := constant S_ .f32 0x35865A19#32
  let main_v2 : FVec F S8x2048x1 .f32 := fn_where (F := F) main_v1 main_cst main_cst_0
  let main_v3 : FVec F S8x2048x2048 .f32 := sitofp .f32 main_arg2
  let main_v4 : FVec F S8x2048x2048 .f32 := Host.absf main_v3
  let main_v5 : FVec F S8x1x2048 .f32 := broadcastInDim S8x1x2048 ![0, 2] bcast_S8x2048_S8x1x2048_0_2 main_v0
  let main_v6 : FVec F S8x2048x2048 .f32 := broadcastInDim S8x2048x2048 ![0, 1, 2] bcast_S8x1x2048_S8x2048x2048_0_1_2 main_v5
  let main_v7 : FVec F S8x2048x2048 .f32 := mulf main_v4 main_v6
  let main_v8 : FVec F S_ .f32 := Host.absf main_arg5
  let main_v9 : FVec F S8x2048x1 .f32 := id main_v2
  let main_v10 : FVec F S8x2048x2048 .f32 := broadcastInDim S8x2048x2048 ![0, 1, 2] bcast_S8x2048x1_S8x2048x2048_0_1_2 main_v9
  let main_v11 : FVec F S8x2048x2048 .f32 := mulf main_v7 main_v10
  let main_cst_1 : FVec F S_ .f32 := constant S_ .f32 0x00000000#32
  let main_v12 : FVec F S8 .f32 := (fun x v => Host.reduceAdd x v reducesTo_S8x2048x2048_S8_d1_2 h_S_) main_v11 main_cst_1
  let main_v13 : FVec F S8 .f32 := broadcastInDim S8 ![] bcast_S_S8 main_v8
  let main_v14 : FVec F S8 .f32 := mulf main_v13 main_v12
  let main_v15 : FVec F S8x2048 .f32 := uitofp .f32 main_arg3
  let main_v16 : FVec F S8x2048x2048 .f32 := sitofp .f32 main_arg2
  let main_v17 : FVec F S8x2048x1 .f32 := broadcastInDim S8x2048x1 ![0, 1] bcast_S8x2048_S8x2048x1_0_1 main_v15
  let main_v18 : FVec F S8x2048x2048 .f32 := broadcastInDim S8x2048x2048 ![0, 1, 2] bcast_S8x2048x1_S8x2048x2048_0_1_2 main_v17
  let main_v19 : FVec F S8x2048x2048 .f32 := mulf main_v16 main_v18
  let main_v20 : FVec F S8x1x2048 .f32 := broadcastInDim S8x1x2048 ![0, 2] bcast_S8x2048_S8x1x2048_0_2 main_v15
  fn_part1 (F := F) main_arg0 main_arg1 main_arg4 main_arg5 main_arg6 main_v14 main_v15 main_v19 main_v20
-- ==== Pre_sane.lean ====
abbrev S8x2048 : Shape := ⟨2, ![8, 2048]⟩
abbrev S8x2048x3 : Shape := ⟨3, ![8, 2048, 3]⟩
abbrev S8x2048x2048 : Shape := ⟨3, ![8, 2048, 2048]⟩
abbrev S100 : Shape := ⟨1, ![100]⟩
abbrev S_ : Shape := ⟨0, ![]⟩

class Facts : Prop where
  bcast_S_S8x2048 : S_.BroadcastsInDim S8x2048 (![] : Fin 0 → Fin S8x2048.rank)
  bcast_S_S8x2048x3 : S_.BroadcastsInDim S8x2048x3 (![] : Fin 0 → Fin S8x2048x3.rank)

variable [Facts]

def fn {F : FTy → Type} [FloatOps F] (main_arg0 : IVec S8x2048 32) (main_arg1 : FVec F S8x2048x3 .f32) (main_arg2 : IVec S8x2048x2048 32) (main_arg3 : IVec S8x2048 1) (main_arg4 : FVec F S100 .f32) (main_arg5 : FVec F S_ .f32) : IVec S8x2048 1 × IVec S8x2048x3 1 × IVec S_ 1 :=
  let main_c : IVec S_ 32 := constantI S_ 32 0#32
  let main_v0 : IVec S8x2048 32 := broadcastInDim S8x2048 ![] bcast_S_S8x2048 main_c
  let main_v1 : IVec S8x2048 1 := cmpi .sge main_arg0 main_v0
  let main_c_0 : IVec S_ 32 := constantI S_ 32 100#32
  let main_v2 : IVec S8x2048 32 := broadcastInDim S8x2048 ![] bcast_S_S8x2048 main_c_0
  let main_v3 : IVec S8x2048 1 := cmpi .slt main_arg0 main_v2
  let main_v4 : IVec S8x2048 1 := andi main_v1 main_v3
  let main_v5 : FVec F S8x2048x3 .f32 := Host.absf main_arg1
  let main_cst : FVec F S_ .f32 := constant S_ .f32 0x7F800000#32
  let main_v6 : FVec F S8x2048x3 .f32 := broadcastInDim S8x2048x3 ![] bcast_S_S8x2048x3 main_cst
  let main_v7 : IVec S8x2048x3 1 := cmpf .olt main_v5 main_v6
  let main_v8 : FVec F S_ .f32 := Host.absf main_arg5
  let main_cst_1 : FVec F S_ .f32 := constant S_ .f32 0x7F800000#32
  let main_v9 : IVec S_ 1 := cmpf .olt main_v8 main_cst_1
  (main_v4, main_v7, main_v9)
-- ==== Kernel.lean ====
abbrev S8x2048 : Shape := ⟨2, ![8, 2048]⟩
abbrev S8x2048x3 : Shape := ⟨3, ![8, 2048, 3]⟩
abbrev S8x2048x2048 : Shape := ⟨3, ![8, 2048, 2048]⟩
abbrev S100 : Shape := ⟨1, ![100]⟩
abbrev S_ : Shape := ⟨0, ![]⟩
abbrev S8x2048x1 : Shape := ⟨3, ![8, 2048, 1]⟩
abbrev S8x2048x7 : Shape := ⟨3, ![8, 2048, 7]⟩
abbrev S8x2048x128 : Shape := ⟨3, ![8, 2048, 128]⟩
abbrev S8x3x2048 : Shape := ⟨3, ![8, 3, 2048]⟩
abbrev S8x1x2048 : Shape := ⟨3, ![8, 1, 2048]⟩
abbrev S8x2x2048 : Shape := ⟨3, ![8, 2, 2048]⟩
abbrev S8x8x2048 : Shape := ⟨3, ![8, 8, 2048]⟩
abbrev S1x1x128 : Shape := ⟨3, ![1, 1, 128]⟩
abbrev S1 : Shape := ⟨1, ![1]⟩
abbrev S3 : Shape := ⟨1, ![3]⟩
abbrev S8x1x128 : Shape := ⟨3, ![8, 1, 128]⟩
abbrev S1x2048x128 : Shape := ⟨3, ![1, 2048, 128]⟩
abbrev S1x8x2048 : Shape := ⟨3, ![1, 8, 2048]⟩
abbrev S6x512x2048 : Shape := ⟨3, ![6, 512, 2048]⟩
abbrev S6 : Shape := ⟨1, ![6]⟩
abbrev S1x512x2048 : Shape := ⟨3, ![1, 512, 2048]⟩
abbrev S512x2048 : Shape := ⟨2, ![512, 2048]⟩
abbrev S1x5x2048 : Shape := ⟨3, ![1, 5, 2048]⟩
abbrev S5x2048 : Shape := ⟨2, ![5, 2048]⟩
abbrev S1x1x2048 : Shape := ⟨3, ![1, 1, 2048]⟩
abbrev S1x2048 : Shape := ⟨2, ![1, 2048]⟩
abbrev S1x512x5 : Shape := ⟨3, ![1, 512, 5]⟩
abbrev S512x5 : Shape := ⟨2, ![512, 5]⟩
abbrev S2048 : Shape := ⟨1, ![2048]⟩
abbrev S1x1x1 : Shape := ⟨3, ![1, 1, 1]⟩
abbrev S1x2048x1 : Shape := ⟨3, ![1, 2048, 1]⟩
abbrev S2048x1 : Shape := ⟨2, ![2048, 1]⟩
abbrev S1x128 : Shape := ⟨2, ![1, 128]⟩
abbrev S2048x128 : Shape := ⟨2, ![2048, 128]⟩
abbrev S8x1x1 : Shape := ⟨3, ![8, 1, 1]⟩
abbrev S8 : Shape := ⟨1, ![8]⟩

abbrev nBuf : Space → Nat
  | .hbm => 54
  | .vmem => 8
  | .smem => 0
  | _ => 0

abbrev bufTy : (tb : Table) → Fin (tcTables nBuf tb) → BufTy
  | .hbm, ⟨0, _⟩ => ⟨S8x2048, .i32⟩
  | .hbm, ⟨1, _⟩ => ⟨S8x2048x3, .f32⟩
  | .hbm, ⟨2, _⟩ => ⟨S8x2048x2048, .i32⟩
  | .hbm, ⟨3, _⟩ => ⟨S8x2048, .i1⟩
  | .hbm, ⟨4, _⟩ => ⟨S100, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .i32⟩
  | .hbm, ⟨9, _⟩ => ⟨S_, .i32⟩
  | .hbm, ⟨10, _⟩ => ⟨S8x2048, .i32⟩
  | .hbm, ⟨11, _⟩ => ⟨S8x2048, .i32⟩
  | .hbm, ⟨12, _⟩ => ⟨S8x2048, .f32⟩
  | .hbm, ⟨13, _⟩ => ⟨S8x2048x3, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x3, .f32⟩
  | .hbm, ⟨18, _⟩ => ⟨S8x2048x3, .f32⟩
  | .hbm, ⟨19, _⟩ => ⟨S8x2048x1, .f32⟩
  | .hbm, ⟨20, _⟩ => ⟨S8x2048x1, .f32⟩
  | .hbm, ⟨21, _⟩ => ⟨S8x2048x7, .f32⟩
  | .hbm, ⟨22, _⟩ => ⟨S_, .i32⟩
  | .hbm, ⟨23, _⟩ => ⟨S_, .f32⟩
  | .hbm, ⟨24, _⟩ => ⟨S8x2048x128, .f32⟩
  | .hbm, ⟨25, _⟩ => ⟨S8x3x2048, .f32⟩
  | .hbm, ⟨26, _⟩ => ⟨S_, .f32⟩
  | .hbm, ⟨27, _⟩ => ⟨S8x3x2048, .f32⟩
  | .hbm, ⟨28, _⟩ => ⟨S8x3x2048, .f32⟩
  | .hbm, ⟨29, _⟩ => ⟨S_, .f32⟩
  | .hbm, ⟨30, _⟩ => ⟨S8x1x2048, .f32⟩
  | .hbm, ⟨31, _⟩ => ⟨S8x1x2048, .f32⟩
  | .hbm, ⟨32, _⟩ => ⟨S_, .f32⟩
  | .hbm, ⟨33, _⟩ => ⟨S8x1x2048, .f32⟩
  | .hbm, ⟨34, _⟩ => ⟨S8x1x2048, .f32⟩
  | .hbm, ⟨35, _⟩ => ⟨S8x1x2048, .f32⟩
  | .hbm, ⟨36, _⟩ => ⟨S8x1x2048, .f32⟩
  | .hbm, ⟨37, _⟩ => ⟨S8x1x2048, .f32⟩
  | .hbm, ⟨38, _⟩ => ⟨S_, .f32⟩
  | .hbm, ⟨39, _⟩ => ⟨S8x2x2048, .f32⟩
  | .hbm, ⟨40, _⟩ => ⟨S8x8x2048, .f32⟩
  | .hbm, ⟨41, _⟩ => ⟨S_, .f32⟩
  | .hbm, ⟨42, _⟩ => ⟨S1x1x128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S3, .i32⟩
  | .hbm, ⟨50, _⟩ => ⟨S1x1x128, .f32⟩
  | .hbm, ⟨51, _⟩ => ⟨S8x1x128, .f32⟩
  | .hbm, ⟨52, _⟩ => ⟨S8x1x1, .f32⟩
  | .hbm, ⟨53, _⟩ => ⟨S8, .f32⟩
  | .local _ .vmem, ⟨0, _⟩ => ⟨S1x2048x128, .f32⟩
  | .local _ .vmem, ⟨1, _⟩ => ⟨S1x2048x128, .f32⟩
  | .local _ .vmem, ⟨2, _⟩ => ⟨S1x8x2048, .f32⟩
  | .local _ .vmem, ⟨3, _⟩ => ⟨S1x8x2048, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S6x512x2048, .i32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_17 : BitVec 32) : Fin 3 → Nat :=
  let c0_i32_19 : BitVec 32 := 0#32
  let c4_i32_18 : BitVec 32 := 4#32
  let v35 : BitVec 32 := Scalar.remsi c0_i32_17 c4_i32_18
  let c512_i32 : BitVec 32 := 512#32
  let v36 : BitVec 32 := Scalar.muli v35 c512_i32
  let c0_i32_24 : BitVec 32 := 0#32
  ![0, v36.toNat, 0]
def k0_off2 (c4_i32_50 : BitVec 32) : Fin 3 → Nat :=
  let c1_i32_53 : BitVec 32 := 1#32
  let c4_i32_51 : BitVec 32 := 4#32
  let v67 : BitVec 32 := Scalar.remsi c4_i32_50 c4_i32_51
  let c512_i32_52 : BitVec 32 := 512#32
  let v68 : BitVec 32 := Scalar.muli v67 c512_i32_52
  let c0_i32_58 : BitVec 32 := 0#32
  ![1, v68.toNat, 0]
@[reducible] def k0_t1_loop : Scf.Loop 32 :=
  let c0_i32_5 : BitVec 32 := 0#32
  let c4_i32 : BitVec 32 := 4#32
  let v8 : BitVec 32 := Scalar.addi c0_i32_5 c4_i32
  let c1_i32 : BitVec 32 := 1#32
  ⟨c0_i32_5, v8, c1_i32⟩
def k0_off3 (i : grid0.Coords) (k0_t1 : Fin k0_t1_loop.trips) : Fin 1 → Nat :=
  let arg0 : BitVec 32 := BitVec.ofNat 32 (i 0).val
  let c4_i32_17 : BitVec 32 := 4#32
  let v35 : BitVec 32 := Scalar.muli arg0 c4_i32_17
  let c0_i32_5 : BitVec 32 := 0#32
  let c1_i32 : BitVec 32 := 1#32
  let arg8 : BitVec 32 := Scf.iv c0_i32_5 c1_i32 k0_t1
  let v36 : BitVec 32 := Scalar.addi v35 arg8
  let c6_i32 : BitVec 32 := 6#32
  let v37 : BitVec 32 := Scalar.remsi v36 c6_i32
  ![v37.toNat]
def k0_off4 (i : grid0.Coords) (k0_t1 : Fin k0_t1_loop.trips) : Fin 3 → Nat :=
  let arg0 : BitVec 32 := BitVec.ofNat 32 (i 0).val
  let c4_i32_17 : BitVec 32 := 4#32
  let v35 : BitVec 32 := Scalar.muli arg0 c4_i32_17
  let c0_i32_5 : BitVec 32 := 0#32
  let c1_i32 : BitVec 32 := 1#32
  let arg8 : BitVec 32 := Scf.iv c0_i32_5 c1_i32 k0_t1
  let v36 : BitVec 32 := Scalar.addi v35 arg8
  let c6_i32 : BitVec 32 := 6#32
  let v37 : BitVec 32 := Scalar.remsi v36 c6_i32
  let c0_i32_18 : BitVec 32 := 0#32
  let c0_i32_19 : BitVec 32 := 0#32
  ![v37.toNat, 0, 0]
def k0_off5 (i : grid0.Coords) (k0_t1 : Fin k0_t1_loop.trips) : Fin 3 → Nat :=
  let arg0 : BitVec 32 := BitVec.ofNat 32 (i 0).val
  let c0_i32_5 : BitVec 32 := 0#32
  let c1_i32 : BitVec 32 := 1#32
  let arg8 : BitVec 32 := Scf.iv c0_i32_5 c1_i32 k0_t1
  let c512_i32 : BitVec 32 := 512#32
  let v38 : BitVec 32 := Scalar.muli arg8 c512_i32
  let c0_i32_20 : BitVec 32 := 0#32
  ![arg0.toNat, v38.toNat, 0]
def k0_off6 (k0_t1 : Fin k0_t1_loop.trips) : Fin 3 → Nat :=
  let c0_22 : Index := 0#32
  let c0_i32_5 : BitVec 32 := 0#32
  let c1_i32 : BitVec 32 := 1#32
  let arg8 : BitVec 32 := Scf.iv c0_i32_5 c1_i32 k0_t1
  let c512_i32_21 : BitVec 32 := 512#32
  let v45 : BitVec 32 := Scalar.muli arg8 c512_i32_21
  let v46 : Index := Scalar.indexCast v45
  let c0_23 : Index := 0#32
  ![0, v46.toNat, 0]
def k0_off7 (i : grid0.Coords) (k0_t1 : Fin k0_t1_loop.trips) : Fin 3 → Nat :=
  let arg0 : BitVec 32 := BitVec.ofNat 32 (i 0).val
  let c4_i32_17 : BitVec 32 := 4#32
  let v35 : BitVec 32 := Scalar.muli arg0 c4_i32_17
  let c0_i32_5 : BitVec 32 := 0#32
  let c1_i32 : BitVec 32 := 1#32
  let arg8 : BitVec 32 := Scf.iv c0_i32_5 c1_i32 k0_t1
  let v36 : BitVec 32 := Scalar.addi v35 arg8
  let c6_i32 : BitVec 32 := 6#32
  let v37 : BitVec 32 := Scalar.remsi v36 c6_i32
  let v54 : Index := Scalar.indexCast v37
  let c0_26 : Index := 0#32
  let c0_27 : Index := 0#32
  ![v54.toNat, 0, 0]
def k0_cond2 (i : grid0.Coords) (k0_t1 : Fin k0_t1_loop.trips) : BitVec 1 :=
  let arg0 : BitVec 32 := BitVec.ofNat 32 (i 0).val
  let c4_i32_17 : BitVec 32 := 4#32
  let v35 : BitVec 32 := Scalar.muli arg0 c4_i32_17
  let c0_i32_5 : BitVec 32 := 0#32
  let c1_i32 : BitVec 32 := 1#32
  let arg8 : BitVec 32 := Scf.iv c0_i32_5 c1_i32 k0_t1
  let v36 : BitVec 32 := Scalar.addi v35 arg8
  let c6_i32_29 : BitVec 32 := 6#32
  let v62 : BitVec 32 := Scalar.addi v36 c6_i32_29
  let c32_i32 : BitVec 32 := 32#32
  let v63 : BitVec 1 := Scalar.cmpi .slt v62 c32_i32
  let v64 : BitVec 32 := Scalar.extui v63
  let c0_i32_30 : BitVec 32 := 0#32
  let v65 : BitVec 1 := Scalar.cmpi .ne v64 c0_i32_30
  v65

def k0_off8 (i : grid0.Coords) (k0_t1 : Fin k0_t1_loop.trips) : Fin 1 → Nat :=
  let arg0 : BitVec 32 := BitVec.ofNat 32 (i 0).val
  let c4_i32_17 : BitVec 32 := 4#32
  let v35 : BitVec 32 := Scalar.muli arg0 c4_i32_17
  let c0_i32_5 : BitVec 32 := 0#32
  let c1_i32 : BitVec 32 := 1#32
  let arg8 : BitVec 32 := Scf.iv c0_i32_5 c1_i32 k0_t1
  let v36 : BitVec 32 := Scalar.addi v35 arg8
  let c6_i32 : BitVec 32 := 6#32
  let v37 : BitVec 32 := Scalar.remsi v36 c6_i32
  ![v37.toNat]
def k0_off9 (i : grid0.Coords) (k0_t1 : Fin k0_t1_loop.trips) : Fin 3 → Nat :=
  let arg0 : BitVec 32 := BitVec.ofNat 32 (i 0).val
  let c4_i32_17 : BitVec 32 := 4#32
  let v35 : BitVec 32 := Scalar.muli arg0 c4_i32_17
  let c0_i32_5 : BitVec 32 := 0#32
  let c1_i32 : BitVec 32 := 1#32
  let arg8 : BitVec 32 := Scf.iv c0_i32_5 c1_i32 k0_t1
  let v36 : BitVec 32 := Scalar.addi v35 arg8
  let c6_i32 : BitVec 32 := 6#32
  let v37 : BitVec 32 := Scalar.remsi v36 c6_i32
  let c0_i32_41 : BitVec 32 := 0#32
  let c0_i32_42 : BitVec 32 := 0#32
  ![v37.toNat, 0, 0]
def k0_off10 (i : grid0.Coords) (k0_t1 : Fin k0_t1_loop.trips) : Fin 3 → Nat :=
  let arg0 : BitVec 32 := BitVec.ofNat 32 (i 0).val
  let c4_i32_17 : BitVec 32 := 4#32
  let v35 : BitVec 32 := Scalar.muli arg0 c4_i32_17
  let c0_i32_5 : BitVec 32 := 0#32
  let c1_i32 : BitVec 32 := 1#32
  let arg8 : BitVec 32 := Scf.iv c0_i32_5 c1_i32 k0_t1
  let v36 : BitVec 32 := Scalar.addi v35 arg8
  let c6_i32_31 : BitVec 32 := 6#32
  let v66 : BitVec 32 := Scalar.addi v36 c6_i32_31
  let c0_i32_33 : BitVec 32 := 0#32
  let v68 : BitVec 1 := Scalar.cmpi .sgt v66 c0_i32_33
  let v69 : BitVec 32 := Scalar.extui v68
  let c0_i32_34 : BitVec 32 := 0#32
  let v70 : BitVec 1 := Scalar.cmpi .slt v66 c0_i32_34
  let v71 : BitVec 32 := Scalar.extui v70
  let v72 : BitVec 32 := Scalar.subi v69 v71
  let c4_i32_32 : BitVec 32 := 4#32
  let c0_i32_35 : BitVec 32 := 0#32
  let v73 : BitVec 1 := Scalar.cmpi .sgt c4_i32_32 c0_i32_35
  let v74 : BitVec 32 := Scalar.extui v73
  let c0_i32_36 : BitVec 32 := 0#32
  let v75 : BitVec 1 := Scalar.cmpi .slt c4_i32_32 c0_i32_36
  let v76 : BitVec 32 := Scalar.extui v75
  let v77 : BitVec 32 := Scalar.subi v74 v76
  let v78 : BitVec 1 := Scalar.cmpi .ne v72 v77
  let v79 : BitVec 32 := Scalar.remsi v66 c4_i32_32
  let c0_i32_37 : BitVec 32 := 0#32
  let v80 : BitVec 1 := Scalar.cmpi .ne v79 c0_i32_37
  let v81 : BitVec 1 := Scalar.andi v78 v80
  let v67 : BitVec 32 := Scalar.divsi v66 c4_i32_32
  let c1_i32_38 : BitVec 32 := 1#32
  let v82 : BitVec 32 := Scalar.subi v67 c1_i32_38
  let v83 : BitVec 32 := Scalar.select v81 v82 v67
  let c4_i32_39 : BitVec 32 := 4#32
  let v84 : BitVec 32 := Scalar.remsi v66 c4_i32_39
  let c512_i32_40 : BitVec 32 := 512#32
  let v85 : BitVec 32 := Scalar.muli v84 c512_i32_40
  let c0_i32_43 : BitVec 32 := 0#32
  ![v83.toNat, v85.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SoftenedIdeal.lean ====
abbrev S8x2048 : Shape := ⟨2, ![8, 2048]⟩
abbrev S8x2048x3 : Shape := ⟨3, ![8, 2048, 3]⟩
abbrev S8x2048x2048 : Shape := ⟨3, ![8, 2048, 2048]⟩
abbrev S100 : Shape := ⟨1, ![100]⟩
abbrev S_ : Shape := ⟨0, ![]⟩
abbrev S8x2048x1 : Shape := ⟨3, ![8, 2048, 1]⟩
abbrev S8x1x2048 : Shape := ⟨3, ![8, 1, 2048]⟩
abbrev S1 : Shape := ⟨1, ![1]⟩
abbrev S1x1x1 : Shape := ⟨3, ![1, 1, 1]⟩
abbrev S8 : Shape := ⟨1, ![8]⟩

abbrev nBuf : Space → Nat
  | .hbm => 68
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S8x2048x3, .f32⟩
  | .hbm, ⟨2, _⟩ => ⟨S8x2048x2048, .i32⟩
  | .hbm, ⟨3, _⟩ => ⟨S8x2048, .i1⟩
  | .hbm, ⟨4, _⟩ => ⟨S100, .f32⟩
  | .hbm, ⟨5, _⟩ => ⟨S_, .f32⟩
  | .hbm, ⟨6, _⟩ => ⟨S8x2048, .f32⟩
  | .hbm, ⟨7, _⟩ => ⟨S8x2048x3, .f32⟩
  | .hbm, ⟨8, _⟩ => ⟨S_, .f32⟩
  | .hbm, ⟨9, _⟩ => ⟨S8x2048, .f32⟩
  | .hbm, ⟨10, _⟩ => ⟨S8x2048x2048, .f32⟩
  | .hbm, ⟨11, _⟩ => ⟨S8x2048x1, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x1, .i1⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S_, .f32⟩
  | .hbm, ⟨29, _⟩ => ⟨S8x2048x2048, .i1⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S_, .i32⟩
  | .hbm, ⟨38, _⟩ => ⟨S8x2048, .i32⟩
  | .hbm, ⟨39, _⟩ => ⟨S8x2048, .i1⟩
  | .hbm, ⟨40, _⟩ => ⟨S_, .i32⟩
  | .hbm, ⟨41, _⟩ => ⟨S8x2048, .i32⟩
  | .hbm, ⟨42, _⟩ => ⟨S8x2048, .i32⟩
  | .hbm, ⟨43, _⟩ => ⟨S8x2048, .i32⟩
  | .hbm, ⟨44, _⟩ => ⟨S8x2048x1, .i32⟩
  | .hbm, ⟨45, _⟩ => ⟨S1, .i32⟩
  | .hbm, ⟨46, _⟩ => ⟨S_, .i32⟩
  | .hbm, ⟨47, _⟩ => ⟨S8x2048x1, .i32⟩
  | .hbm, ⟨48, _⟩ => ⟨S8x2048x1, .i1⟩
  | .hbm, ⟨49, _⟩ => ⟨S1x1x1, .i32⟩
  | .hbm, ⟨50, _⟩ => ⟨S8x2048x1, .i32⟩
  | .hbm, ⟨51, _⟩ => ⟨S8x2048x1, .i1⟩
  | .hbm, ⟨52, _⟩ => ⟨S8x2048x1, .i1⟩
  | .hbm, ⟨53, _⟩ => ⟨S_, .i1⟩
  | .hbm, ⟨54, _⟩ => ⟨S8x2048, .i1⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S8x2048, .f32⟩
  | .hbm, ⟨60, _⟩ => ⟨S_, .f32⟩
  | .hbm, ⟨61, _⟩ => ⟨S8, .f32⟩
  | .hbm, ⟨62, _⟩ => ⟨S8x2048x2048, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S8, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v23 : Ref sig .tc := ⟨.hbm, 58, rfl⟩
abbrev main_v24 : Ref sig .tc := ⟨.hbm, 59, rfl⟩
abbrev main_cst_4 : Ref sig .tc := ⟨.hbm, 60, rfl⟩
abbrev main_v25 : Ref sig .tc := ⟨.hbm, 61, rfl⟩
abbrev main_v26 : Ref sig .tc := ⟨.hbm, 62, rfl⟩
abbrev main_cst_5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩

abbrev nD : Nat := 1
abbrev τ : Topo := Topo.v7x

variable {F : FTy → Type} [FloatOps F]
-- ==== Simple.lean ====
abbrev S8x2048 : Shape := ⟨2, ![8, 2048]⟩
abbrev S8x2048x3 : Shape := ⟨3, ![8, 2048, 3]⟩
abbrev S8x2048x2048 : Shape := ⟨3, ![8, 2048, 2048]⟩
abbrev S100 : Shape := ⟨1, ![100]⟩
abbrev S_ : Shape := ⟨0, ![]⟩
abbrev S8x2048x1 : Shape := ⟨3, ![8, 2048, 1]⟩
abbrev S8x2048x5 : Shape := ⟨3, ![8, 2048, 5]⟩
abbrev S8x2048x128 : Shape := ⟨3, ![8, 2048, 128]⟩
abbrev S8x3x2048 : Shape := ⟨3, ![8, 3, 2048]⟩
abbrev S8x1x2048 : Shape := ⟨3, ![8, 1, 2048]⟩
abbrev S8x4x2048 : Shape := ⟨3, ![8, 4, 2048]⟩
abbrev S1x1x128 : Shape := ⟨3, ![1, 1, 128]⟩
abbrev S1 : Shape := ⟨1, ![1]⟩
abbrev S3 : Shape := ⟨1, ![3]⟩
abbrev S8x1x128 : Shape := ⟨3, ![8, 1, 128]⟩
abbrev S1x256x128 : Shape := ⟨3, ![1, 256, 128]⟩
abbrev S1x4x2048 : Shape := ⟨3, ![1, 4, 2048]⟩
abbrev S1x256x2048 : Shape := ⟨3, ![1, 256, 2048]⟩
abbrev S1x256x1 : Shape := ⟨3, ![1, 256, 1]⟩
abbrev S256x1 : Shape := ⟨2, ![256, 1]⟩
abbrev S1x1x2048 : Shape := ⟨3, ![1, 1, 2048]⟩
abbrev S1x2048 : Shape := ⟨2, ![1, 2048]⟩
abbrev S256x2048 : Shape := ⟨2, ![256, 2048]⟩
abbrev S1x1x1 : Shape := ⟨3, ![1, 1, 1]⟩
abbrev S1x128 : Shape := ⟨2, ![1, 128]⟩
abbrev S256x128 : Shape := ⟨2, ![256, 128]⟩
abbrev S8x1x1 : Shape := ⟨3, ![8, 1, 1]⟩
abbrev S8 : Shape := ⟨1, ![8]⟩

abbrev nBuf : Space → Nat
  | .hbm => 31
  | .vmem => 10
  | .smem => 0
  | _ => 0

abbrev bufTy : (tb : Table) → Fin (tcTables nBuf tb) → BufTy
  | .hbm, ⟨0, _⟩ => ⟨S8x2048, .i32⟩
  | .hbm, ⟨1, _⟩ => ⟨S8x2048x3, .f32⟩
  | .hbm, ⟨2, _⟩ => ⟨S8x2048x2048, .i32⟩
  | .hbm, ⟨3, _⟩ => ⟨S8x2048, .i1⟩
  | .hbm, ⟨4, _⟩ => ⟨S100, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x1, .f32⟩
  | .hbm, ⟨10, _⟩ => ⟨S8x2048x5, .f32⟩
  | .hbm, ⟨11, _⟩ => ⟨S_, .i32⟩
  | .hbm, ⟨12, _⟩ => ⟨S_, .f32⟩
  | .hbm, ⟨13, _⟩ => ⟨S8x2048x128, .f32⟩
  | .hbm, ⟨14, _⟩ => ⟨S8x3x2048, .f32⟩
  | .hbm, ⟨15, _⟩ => ⟨S8x1x2048, .f32⟩
  | .hbm, ⟨16, _⟩ => ⟨S8x4x2048, .f32⟩
  | .hbm, ⟨17, _⟩ => ⟨S_, .f32⟩
  | .hbm, ⟨18, _⟩ => ⟨S1x1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S1x1x128, .f32⟩
  | .hbm, ⟨27, _⟩ => ⟨S1x1x128, .f32⟩
  | .hbm, ⟨28, _⟩ => ⟨S8x1x128, .f32⟩
  | .hbm, ⟨29, _⟩ => ⟨S8x1x1, .f32⟩
  | .hbm, ⟨30, _⟩ => ⟨S8, .f32⟩
  | .local _ .vmem, ⟨0, _⟩ => ⟨S1x256x128, .f32⟩
  | .local _ .vmem, ⟨1, _⟩ => ⟨S1x256x128, .f32⟩
  | .local _ .vmem, ⟨2, _⟩ => ⟨S1x4x2048, .f32⟩
  | .local _ .vmem, ⟨3, _⟩ => ⟨S1x4x2048, .f32⟩
  | .local _ .vmem, ⟨4, _⟩ => ⟨S1x256x2048, .i32⟩
  | .local _ .vmem, ⟨5, _⟩ => ⟨S1x256x2048, .i32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x2048 : Shape := ⟨2, ![8, 2048]⟩
abbrev S8x2048x3 : Shape := ⟨3, ![8, 2048, 3]⟩
abbrev S8x2048x2048 : Shape := ⟨3, ![8, 2048, 2048]⟩
abbrev S100 : Shape := ⟨1, ![100]⟩
abbrev S_ : Shape := ⟨0, ![]⟩
abbrev S8x2048x1 : Shape := ⟨3, ![8, 2048, 1]⟩
abbrev S8x1x2048 : Shape := ⟨3, ![8, 1, 2048]⟩
abbrev S1 : Shape := ⟨1, ![1]⟩
abbrev S1x1x1 : Shape := ⟨3, ![1, 1, 1]⟩
abbrev S8 : Shape := ⟨1, ![8]⟩

abbrev nBuf : Space → Nat
  | .hbm => 76
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S8x2048x3, .f32⟩
  | .hbm, ⟨2, _⟩ => ⟨S8x2048x2048, .i32⟩
  | .hbm, ⟨3, _⟩ => ⟨S8x2048, .i1⟩
  | .hbm, ⟨4, _⟩ => ⟨S100, .f32⟩
  | .hbm, ⟨5, _⟩ => ⟨S_, .f32⟩
  | .hbm, ⟨6, _⟩ => ⟨S8x2048, .f32⟩
  | .hbm, ⟨7, _⟩ => ⟨S8x2048x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x3, .f32⟩
  | .hbm, ⟨15, _⟩ => ⟨S_, .f32⟩
  | .hbm, ⟨16, _⟩ => ⟨S8x2048, .f32⟩
  | .hbm, ⟨17, _⟩ => ⟨S8x2048x2048, .f32⟩
  | .hbm, ⟨18, _⟩ => ⟨S8x2048x1, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S8x2048x2048, .i1⟩
  | .hbm, ⟨33, _⟩ => ⟨S_, .f32⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .i1⟩
  | .hbm, ⟨40, _⟩ => ⟨S8x2048x2048, .f32⟩
  | .hbm, ⟨41, _⟩ => ⟨S_, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S_, .i32⟩
  | .hbm, ⟨46, _⟩ => ⟨S8x2048, .i32⟩
  | .hbm, ⟨47, _⟩ => ⟨S8x2048, .i1⟩
  | .hbm, ⟨48, _⟩ => ⟨S_, .i32⟩
  | .hbm, ⟨49, _⟩ => ⟨S8x2048, .i32⟩
  | .hbm, ⟨50, _⟩ => ⟨S8x2048, .i32⟩
  | .hbm, ⟨51, _⟩ => ⟨S8x2048, .i32⟩
  | .hbm, ⟨52, _⟩ => ⟨S8x2048x1, .i32⟩
  | .hbm, ⟨53, _⟩ => ⟨S1, .i32⟩
  | .hbm, ⟨54, _⟩ => ⟨S_, .i32⟩
  | .hbm, ⟨55, _⟩ => ⟨S8x2048x1, .i32⟩
  | .hbm, ⟨56, _⟩ => ⟨S8x2048x1, .i1⟩
  | .hbm, ⟨57, _⟩ => ⟨S1x1x1, .i32⟩
  | .hbm, ⟨58, _⟩ => ⟨S8x2048x1, .i32⟩
  | .hbm, ⟨59, _⟩ => ⟨S8x2048x1, .i1⟩
  | .hbm, ⟨60, _⟩ => ⟨S8x2048x1, .i1⟩
  | .hbm, ⟨61, _⟩ => ⟨S_, .i1⟩
  | .hbm, ⟨62, _⟩ => ⟨S8x2048, .i1⟩
  | .hbm, ⟨63, _⟩ => ⟨S8x2048, .f32⟩
  | .hbm, ⟨64, _⟩ => ⟨S_, .f32⟩
  | .hbm, ⟨65, _⟩ => ⟨S8x2048, .f32⟩
  | .hbm, ⟨66, _⟩ => ⟨S8x2048, .f32⟩
  | .hbm, ⟨67, _⟩ => ⟨S8x2048, .f32⟩
  | .hbm, ⟨68, _⟩ => ⟨S_, .f32⟩
  | .hbm, ⟨69, _⟩ => ⟨S8, .f32⟩
  | .hbm, ⟨70, _⟩ => ⟨S8x2048x2048, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S8, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v27 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_cst : Ref sig .tc := ⟨.hbm, 64, rfl⟩
abbrev main_call2_v14 : Ref sig .tc := ⟨.hbm, 65, rfl⟩
abbrev main_v28 : Ref sig .tc := ⟨.hbm, 66, rfl⟩
abbrev main_v29 : Ref sig .tc := ⟨.hbm, 67, rfl⟩
abbrev main_cst_6 : Ref sig .tc := ⟨.hbm, 68, rfl⟩
abbrev main_v30 : Ref sig .tc := ⟨.hbm, 69, rfl⟩
abbrev main_v31 : Ref sig .tc := ⟨.hbm, 70, rfl⟩
abbrev main_cst_7 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩

abbrev nD : Nat := 1
abbrev τ : Topo := Topo.v7x

variable {F : FTy → Type} [FloatOps F]
-- ==== Proof.Ring.Names.lean ====
/-
  The names of the optimised kernel's own transfers.

  The kernel streams the adjacency matrix itself: 32 blocks of 512 rows, four to a molecule, through six slots of a
  scratch buffer, each slot with a DMA semaphore of its own. Step `g = 4 b + k` (grid point `b`, trip `k` of its
  loop) waits block `g` in slot `g mod 6` and sends block `g + 6` into the slot that it has just read. This file
  names a block, a slot and a slot's semaphore, and states that every slice the kernel takes is one of them.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Tactic

@[expose] public section

noncomputable section

namespace Cert.Proof.Ring

open Cert.KernelIdeal Cert.KernelIdeal.Gen
open Idealize.ShloMosaic
open Idealize.ShloMosaic.TcCoe Idealize.ShloMosaic.Tactic
open Idealize.SL.Sem

/-! ## Blocks, slots, semaphores -/

/-- The adjacency matrices, whole; -/
abbrev adjM : Memref sig .tc .hbm S8x2048x2048 .i32 := Memref.whole main_arg2
/-- the six-slot scratch buffer, whole. -/
abbrev bufM : Memref sig .tc .vmem S6x512x2048 .i32 := Memref.whole cc0_scratch0

/-- Block `x` begins at row `512 (x mod 4)` of molecule `x / 4`. -/
abbrev blkOff (x : Fin 32) : Fin 3 → Nat := ![x.val / 4, x.val % 4 * 512, 0]
theorem blkOff_inb (x : Fin 32) : ∀ a, blkOff x a + S1x512x2048.size a ≤ S8x2048x2048.size a := by
  have := x.isLt; intro a; fin_cases a
  · show x.val / 4 + 1 ≤ 8; omega
  · show x.val % 4 * 512 + 512 ≤ 2048; omega
  · show 0 + 2048 ≤ 2048; omega
abbrev slotOff (s : Fin 6) : Fin 3 → Nat := ![s.val, 0, 0]
theorem slotOff_inb (s : Fin 6) : ∀ a, slotOff s a + S1x512x2048.size a ≤ S6x512x2048.size a := by
  have := s.isLt; intro a; fin_cases a
  · show s.val + 1 ≤ 6; omega
  · show 0 + 512 ≤ 512; omega
  · show 0 + 2048 ≤ 2048; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Block `x` of the adjacency matrices: 512 rows of 2048. -/
def blk (x : Fin 32) : Memref sig .tc .hbm S512x2048 .i32 :=
  (adjM.slice (Rect.unit (s := S8x2048x2048) (blkOff x) S1x512x2048.size (blkOff_inb x)) (fun _ => rfl)).squeeze S512x2048 squeezes_S1x512x2048_S512x2048
/-- Slot `s` of the scratch buffer. -/
def slot (s : Fin 6) : Memref sig .tc .vmem S512x2048 .i32 :=
  (bufM.slice (Rect.unit (s := S6x512x2048) (slotOff s) S1x512x2048.size (slotOff_inb s)) (fun _ => rfl)).squeeze S512x2048 squeezes_S1x512x2048_S512x2048
/-- Slot `s`'s DMA semaphore. -/
def cell (s : Fin 6) : DmaSems sig S_ :=
  (cc0_scratch1.slice (Rect.unit (s := S6) (semOff s) S1.size (semOff_inb s))).squeeze S_ squeezes_S1_S_

instance (s : Fin 6) : ClosedOff (slotOff s) := ⟨slotOff s, rfl⟩
instance (x : Fin 32) : ClosedOff (blkOff x) := ⟨blkOff x, rfl⟩

/-! ## The offsets that the kernel computes, in closed form -/

/-- The step of trip `k` of grid point `i`. -/
abbrev gg (i : grid0.Coords) (k : ℕ) : ℕ := 4 * (i 0).val + k

theorem off3_eq : ∀ (i : grid0.Coords) (k : Fin k0_t1_loop.trips), k0_off3 i k = semOff (Ring.sl 6 (gg i k.val)) := by decide +kernel
theorem off4_eq : ∀ (i : grid0.Coords) (k : Fin k0_t1_loop.trips), k0_off4 i k = slotOff (Ring.sl 6 (gg i k.val)) := by decide +kernel
theorem off5_eq : ∀ (i : grid0.Coords) (k : Fin k0_t1_loop.trips), k0_off5 i k = blkOff (Ring.bk 32 (gg i k.val)) := by decide +kernel
theorem off6_eq : ∀ k : Fin k0_t1_loop.trips, k0_off6 k = ![0, 512 * k.val, 0] := by decide +kernel
theorem off7_eq : ∀ (i : grid0.Coords) (k : Fin k0_t1_loop.trips), k0_off7 i k = slotOff (Ring.sl 6 (gg i k.val)) := by decide +kernel
theorem off8_eq : ∀ (i : grid0.Coords) (k : Fin k0_t1_loop.trips), k0_off8 i k = semOff (Ring.sl 6 (gg i k.val)) := by decide +kernel
theorem off9_eq : ∀ (i : grid0.Coords) (k : Fin k0_t1_loop.trips), k0_off9 i k = slotOff (Ring.sl 6 (gg i k.val)) := by decide +kernel
theorem off10_eq : ∀ (i : grid0.Coords) (k : Fin k0_t1_loop.trips), k0_cond2 i k = 1#1 → k0_off10 i k = blkOff (Ring.bk 32 (gg i k.val + 6)) := by
  decide +kernel
/-- The first grid point fills the ring. -/
theorem cond1_iff : ∀ i : grid0.Coords, k0_cond1 i = 1#1 ↔ (i 0).val = 0 := by decide +kernel
/-- A step sends a further block while there is one. -/
theorem cond2_iff : ∀ (i : grid0.Coords) (k : Fin k0_t1_loop.trips), k0_cond2 i k = 1#1 ↔ gg i k.val + 6 < 32 := by decide +kernel
theorem gg_lt : ∀ (i : grid0.Coords) (k : Fin k0_t1_loop.trips), gg i k.val < 32 := by decide +kernel

instance (i : grid0.Coords) (k : Fin k0_t1_loop.trips) : ClosedOff (k0_off4 i k) := ⟨slotOff (Ring.sl 6 (gg i k.val)), off4_eq i k⟩
instance (i : grid0.Coords) (k : Fin k0_t1_loop.trips) : ClosedOff (k0_off7 i k) := ⟨slotOff (Ring.sl 6 (gg i k.val)), off7_eq i k⟩
instance (i : grid0.Coords) (k : Fin k0_t1_loop.trips) : ClosedOff (k0_off9 i k) := ⟨slotOff (Ring.sl 6 (gg i k.val)), off9_eq i k⟩

/-! ## The kernel's slices are these -/

private theorem cell_congr {off : Fin 1 → Nat} {s : Fin 6} (e : off = semOff s) (hh) :
    (cc0_scratch1.slice (Rect.unit (s := S6) off S1.size hh)).squeeze S_ squeezes_S1_S_ = cell s :=
  congrArg (fun A : DmaSems sig S1 => A.squeeze S_ squeezes_S1_S_) (SemArray.slice_unit_congr _ e _ _)
private theorem slot_congr {off : Fin 3 → Nat} {s : Fin 6} (e : off = slotOff s) (hh hs) :
    (bufM.slice (Rect.unit (s := S6x512x2048) off S1x512x2048.size hh) hs).squeeze S512x2048 squeezes_S1x512x2048_S512x2048 = slot s :=
  congrArg (fun M : Memref sig .tc .vmem S1x512x2048 .i32 => M.squeeze S512x2048 squeezes_S1x512x2048_S512x2048) (Memref.slice_unit_congr _ e _ _ _ _)
private theorem blk_congr {off : Fin 3 → Nat} {x : Fin 32} (e : off = blkOff x) (hh hs) :
    (adjM.slice (Rect.unit (s := S8x2048x2048) off S1x512x2048.size hh) hs).squeeze S512x2048 squeezes_S1x512x2048_S512x2048 = blk x :=
  congrArg (fun M : Memref sig .tc .hbm S1x512x2048 .i32 => M.squeeze S512x2048 squeezes_S1x512x2048_S512x2048) (Memref.slice_unit_congr _ e _ _ _ _)

/-- The six slots and semaphores that the first grid point names by literals, -/
@[sl_canon] theorem cellL0 (hh) : (cc0_scratch1.slice (Rect.unit (s := S6) ![0] S1.size hh)).squeeze S_ squeezes_S1_S_ = cell 0 := cell_congr (by decide) _
@[sl_canon] theorem cellL1 (hh) : (cc0_scratch1.slice (Rect.unit (s := S6) ![1] S1.size hh)).squeeze S_ squeezes_S1_S_ = cell 1 := cell_congr (by decide) _
@[sl_canon] theorem cellL2 (hh) : (cc0_scratch1.slice (Rect.unit (s := S6) ![2] S1.size hh)).squeeze S_ squeezes_S1_S_ = cell 2 := cell_congr (by decide) _
@[sl_canon] theorem cellL3 (hh) : (cc0_scratch1.slice (Rect.unit (s := S6) ![3] S1.size hh)).squeeze S_ squeezes_S1_S_ = cell 3 := cell_congr (by decide) _
@[sl_canon] theorem cellL4 (hh) : (cc0_scratch1.slice (Rect.unit (s := S6) ![4] S1.size hh)).squeeze S_ squeezes_S1_S_ = cell 4 := cell_congr (by decide) _
@[sl_canon] theorem cellL5 (hh) : (cc0_scratch1.slice (Rect.unit (s := S6) ![5] S1.size hh)).squeeze S_ squeezes_S1_S_ = cell 5 := cell_congr (by decide) _
@[sl_canon] theorem slotL0 (hh hs) : (bufM.slice (Rect.unit (s := S6x512x2048) ![0, 0, 0] S1x512x2048.size hh) hs).squeeze S512x2048 squeezes_S1x512x2048_S512x2048 = slot 0 := slot_congr (by decide) _ _
@[sl_canon] theorem slotL1 (hh hs) : (bufM.slice (Rect.unit (s := S6x512x2048) ![1, 0, 0] S1x512x2048.size hh) hs).squeeze S512x2048 squeezes_S1x512x2048_S512x2048 = slot 1 := slot_congr (by decide) _ _
@[sl_canon] theorem slotL2 (hh hs) : (bufM.slice (Rect.unit (s := S6x512x2048) ![2, 0, 0] S1x512x2048.size hh) hs).squeeze S512x2048 squeezes_S1x512x2048_S512x2048 = slot 2 := slot_congr (by decide) _ _
@[sl_canon] theorem slotL3 (hh hs) : (bufM.slice (Rect.unit (s := S6x512x2048) ![3, 0, 0] S1x512x2048.size hh) hs).squeeze S512x2048 squeezes_S1x512x2048_S512x2048 = slot 3 := slot_congr (by decide) _ _
@[sl_canon] theorem slotL4 (hh hs) : (bufM.slice (Rect.unit (s := S6x512x2048) ![4, 0, 0] S1x512x2048.size hh) hs).squeeze S512x2048 squeezes_S1x512x2048_S512x2048 = slot 4 := slot_congr (by decide) _ _
@[sl_canon] theorem slotL5 (hh hs) : (bufM.slice (Rect.unit (s := S6x512x2048) ![5, 0, 0] S1x512x2048.size hh) hs).squeeze S512x2048 squeezes_S1x512x2048_S512x2048 = slot 5 := slot_congr (by decide) _ _
/-- with the first six blocks. -/
@[sl_canon] theorem blkL0 (hh hs) : (adjM.slice (Rect.unit (s := S8x2048x2048) (k0_off1 0#32) S1x512x2048.size hh) hs).squeeze S512x2048 squeezes_S1x512x2048_S512x2048 = blk 0 := blk_congr (by decide +kernel) _ _
@[sl_canon] theorem blkL1 (hh hs) : (adjM.slice (Rect.unit (s := S8x2048x2048) (k0_off1 1#32) S1x512x2048.size hh) hs).squeeze S512x2048 squeezes_S1x512x2048_S512x2048 = blk 1 := blk_congr (by decide +kernel) _ _
@[sl_canon] theorem blkL2 (hh hs) : (adjM.slice (Rect.unit (s := S8x2048x2048) (k0_off1 2#32) S1x512x2048.size hh) hs).squeeze S512x2048 squeezes_S1x512x2048_S512x2048 = blk 2 := blk_congr (by decide +kernel) _ _
@[sl_canon] theorem blkL3 (hh hs) : (adjM.slice (Rect.unit (s := S8x2048x2048) (k0_off1 3#32) S1x512x2048.size hh) hs).squeeze S512x2048 squeezes_S1x512x2048_S512x2048 = blk 3 := blk_congr (by decide +kernel) _ _
@[sl_canon] theorem blkL4 (hh hs) : (adjM.slice (Rect.unit (s := S8x2048x2048) (k0_off2 4#32) S1x512x2048.size hh) hs).squeeze S512x2048 squeezes_S1x512x2048_S512x2048 = blk 4 := blk_congr (by decide +kernel) _ _
@[sl_canon] theorem blkL5 (hh hs) : (adjM.slice (Rect.unit (s := S8x2048x2048) (k0_off2 5#32) S1x512x2048.size hh) hs).squeeze S512x2048 squeezes_S1x512x2048_S512x2048 = blk 5 := blk_congr (by decide +kernel) _ _

section Trip
variable (i : grid0.Coords) (k : Fin k0_t1_loop.trips)

/-- A trip's: the slot, semaphore and block that it waits for, and those of the block that it sends. -/
@[sl_canon] theorem cellW (hh) : (cc0_scratch1.slice (Rect.unit (s := S6) (k0_off3 i k) S1.size hh)).squeeze S_ squeezes_S1_S_ = cell (Ring.sl 6 (gg i k.val)) := cell_congr (off3_eq i k) _
@[sl_canon] theorem slotW (hh hs) : (bufM.slice (Rect.unit (s := S6x512x2048) (k0_off4 i k) S1x512x2048.size hh) hs).squeeze S512x2048 squeezes_S1x512x2048_S512x2048 = slot (Ring.sl 6 (gg i k.val)) := slot_congr (off4_eq i k) _ _
@[sl_canon] theorem blkW (hh hs) : (adjM.slice (Rect.unit (s := S8x2048x2048) (k0_off5 i k) S1x512x2048.size hh) hs).squeeze S512x2048 squeezes_S1x512x2048_S512x2048 = blk (Ring.bk 32 (gg i k.val)) := blk_congr (off5_eq i k) _ _
@[sl_canon] theorem cellI (hh) : (cc0_scratch1.slice (Rect.unit (s := S6) (k0_off8 i k) S1.size hh)).squeeze S_ squeezes_S1_S_ = cell (Ring.sl 6 (gg i k.val)) := cell_congr (off8_eq i k) _
@[sl_canon] theorem slotI (hh hs) : (bufM.slice (Rect.unit (s := S6x512x2048) (k0_off9 i k) S1x512x2048.size hh) hs).squeeze S512x2048 squeezes_S1x512x2048_S512x2048 = slot (Ring.sl 6 (gg i k.val)) := slot_congr (off9_eq i k) _ _
@[sl_canon] theorem blkI (h : k0_cond2 i k = 1#1) (hh hs) : (adjM.slice (Rect.unit (s := S8x2048x2048) (k0_off10 i k) S1x512x2048.size hh) hs).squeeze S512x2048 squeezes_S1x512x2048_S512x2048 = blk (Ring.bk 32 (gg i k.val + 6)) := blk_congr (off10_eq i k h) _ _

end Trip

end Cert.Proof.Ring

end
-- ==== Proof.Ring.Pieces.lean ====
/-
  The ring that the optimised kernel keeps in flight, as separate pieces: a block at home in the adjacency matrices,
  a slot held, a slot's semaphore at zero, a slot in flight with a block. `Rg x` is the ring before step `x`: the
  blocks `x … x + 5` in flight in their slots (a slot past the last block is free), every other block at home.
-/
module

public import proofs.«01_k».proof.Proof.Ring.Names
public import Idealize.ShloMosaic.Lib.Pipeline.FrameSuffix

@[expose] public section

noncomputable section

namespace Cert.Proof.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

/-- No recursion among the kernel's own functions. -/
abbrev 𝒱₀ : Variants := Variants.none

omit [FloatOps F] in
theorem entails_of_eq {P Q : sProp 𝕄} (e : P = Q) : P ⊢ Q := e ▸ .rfl

section Pieces
variable (c : Dev nD) (XA : Buf (Elt F) (adjM.view.loc (c : Thread nD τ)))

/-- Slot `s`'s semaphore at zero. -/
abbrev cellP (s : Fin 6) : sProp 𝕄 := semVal ((c : Thread nD τ), SemLoc.dma (cell s).sem) 0
/-- Slot `s`, holding `f`. -/
abbrev slotP (s : Fin 6) (f : Buf (Elt F) ((slot s).view.loc (c : Thread nD τ))) : sProp 𝕄 :=
  (slot s).view.loc (c : Thread nD τ) ↦[(slot s).view.set]{fullShare} f
/-- Block `x` at home. -/
abbrev homeP (x : Fin 32) : sProp 𝕄 := (blk x).view.loc (c : Thread nD τ) ↦[(blk x).view.set]{fullShare} XA
/-- Block `x`'s words, as a slot receives them. -/
abbrev payload (x : Fin 32) : S512x2048.Idx → Elt F .i32 := ReadAs.same.apply ((blk x).view.read (Elt F) XA)
/-- Slot `s` after block `x` has landed in it. -/
abbrev landed (s : Fin 6) (x : Fin 32) (f : Buf (Elt F) ((slot s).view.loc (c : Thread nD τ))) : Buf (Elt F) ((slot s).view.loc (c : Thread nD τ)) :=
  (slot s).view.writes (Elt F) f [⟨Rect.whole S512x2048, payload c XA x⟩]
/-- What one block's transfer counts on its semaphore. -/
abbrev NN (s : Fin 6) : ℕ := 131072
/-- Slot `s` in flight with block `x`. -/
abbrev flightP (s : Fin 6) (x : Fin 32) (f : Buf (Elt F) ((slot s).view.loc (c : Thread nD τ))) : sProp 𝕄 :=
  Transfers.Flight countersEmb (c : Thread nD τ) (SemLoc.dma (cell s).sem) () (NN s) iprop(slotP c s (landed c XA s x f) ∗ homeP c XA x)

/-- A flight issued into a slot that a flight has just filled. -/
theorem flightP_after (s : Fin 6) (x x' : Fin 32) :
    flightP c XA s x' ((slot s).view.writes (Elt F) (slot s).view.junk [⟨Rect.whole S512x2048, payload c XA x⟩])
      = Transfers.Flight countersEmb (c : Thread nD τ) (SemLoc.dma (cell s).sem) () 131072
          iprop(((slot s).view.loc (c : Thread nD τ) ↦[(slot s).view.set]{fullShare}
                  (slot s).view.writes (Elt F) (slot s).view.junk [⟨Rect.whole S512x2048, payload c XA x'⟩, ⟨Rect.whole S512x2048, payload c XA x⟩])
                ∗ homeP c XA x') := by
  simp only [flightP, landed, slotP, NN, View.writes]

/-! ## The ring before step `x` -/

/-- The slot of step `x`: in flight with block `x`, or free once there is no such block. -/
def slotX (x : ℕ) : sProp 𝕄 :=
  if x < 32 then iprop(∃ f, flightP c XA (Ring.sl 6 x) (Ring.bk 32 x) f)
  else iprop(cellP c (Ring.sl 6 x) ∗ ∃ f, slotP c (Ring.sl 6 x) f)

/-- The ring before step `x`. -/
def Rg (x : ℕ) : sProp 𝕄 := iprop(bigSep (Ring.homeSet 6 x) (homeP c XA) ∗ bigSep (Finset.Ico x (x + 6)) (slotX c XA))

/-- The five slots that step `x` does not touch. -/
def mid (x : ℕ) : sProp 𝕄 := bigSep (Finset.Ico (x + 1) (x + 6)) (slotX c XA)

omit [FloatOps F] in
theorem Ico_last (x : ℕ) : Finset.Ico (x + 1) (x + 1 + 6) = insert (x + 6) (Finset.Ico (x + 1) (x + 6)) := by
  ext y; simp only [Finset.mem_Ico, Finset.mem_insert]; omega

theorem slots_here (x : ℕ) : bigSep (Finset.Ico x (x + 6)) (slotX c XA) = iprop(slotX c XA x ∗ mid c XA x) := by
  rw [Ring.Ico_eq_insert (show x < x + 6 by omega), bigSep_insert (by simp)]; rfl
theorem slots_next (x : ℕ) : bigSep (Finset.Ico (x + 1) (x + 1 + 6)) (slotX c XA) = iprop(slotX c XA (x + 6) ∗ mid c XA x) := by
  rw [Ico_last, bigSep_insert (by simp)]; rfl

/-- Before a step that sends a block: the block to be sent, the rest of the homes, the flight to be waited, the rest. -/
theorem Rg_here (x : ℕ) (h : x + 6 < 32) :
    Rg c XA x = iprop((homeP c XA (Ring.bk 32 (x + 6)) ∗ bigSep ((Ring.homeSet 6 x).erase (Ring.bk 32 (x + 6))) (homeP c XA))
      ∗ (∃ f, flightP c XA (Ring.sl 6 x) (Ring.bk 32 x) f) ∗ mid c XA x) := by
  unfold Rg
  rw [slots_here, slotX, if_pos (by omega)]
  conv_lhs => rw [Ring.homeSet_out 6 x h, bigSep_insert (Ring.bkL_not_mem_erase 6 x)]
  rfl
/-- After it: the block that was waited is home, the block that was sent is in flight in the same slot. -/
theorem Rg_next (x : ℕ) (h : x + 6 < 32) :
    Rg c XA (x + 1) = iprop((homeP c XA (Ring.bk 32 x) ∗ bigSep ((Ring.homeSet 6 x).erase (Ring.bk 32 (x + 6))) (homeP c XA))
      ∗ (∃ f, flightP c XA (Ring.sl 6 x) (Ring.bk 32 (x + 6)) f) ∗ mid c XA x) := by
  unfold Rg
  rw [slots_next, slotX, if_pos h, Ring.sl_add 6 x]
  conv_lhs => rw [Ring.homeSet_succ 6 x h, bigSep_insert (Ring.bk_not_mem_erase 6 x (by omega) (by decide))]
  rfl
/-- Before a step that sends nothing, -/
theorem Rg_here_tail (x : ℕ) (hx : x < 32) :
    Rg c XA x = iprop(bigSep (Ring.homeSet 6 x) (homeP c XA) ∗ (∃ f, flightP c XA (Ring.sl 6 x) (Ring.bk 32 x) f) ∗ mid c XA x) := by
  unfold Rg
  rw [slots_here, slotX, if_pos hx]
/-- and after it: the slot and its semaphore are free. -/
theorem Rg_next_tail (x : ℕ) (hx : x < 32) (h : 32 ≤ x + 6) :
    Rg c XA (x + 1) = iprop((homeP c XA (Ring.bk 32 x) ∗ bigSep (Ring.homeSet 6 x) (homeP c XA))
      ∗ (cellP c (Ring.sl 6 x) ∗ ∃ f, slotP c (Ring.sl 6 x) f) ∗ mid c XA x) := by
  unfold Rg
  rw [slots_next, slotX, if_neg (by omega), Ring.sl_add 6 x, Ring.homeSet_succ_tail 6 x h hx, bigSep_insert (Ring.bk_not_mem_homeSet 6 x hx (by decide))]
  rfl

/-- Six propositions apart, by number. -/
theorem bigSep_six (Φ : ℕ → sProp 𝕄) (a : ℕ) :
    bigSep (Finset.Ico a (a + 6)) Φ = iprop(Φ a ∗ Φ (a + 1) ∗ Φ (a + 2) ∗ Φ (a + 3) ∗ Φ (a + 4) ∗ Φ (a + 5)) := by
  rw [Ring.Ico_eq_insert (show a < a + 6 by omega), bigSep_insert (by simp),
    Ring.Ico_eq_insert (show a + 1 < a + 6 by omega), bigSep_insert (by simp),
    Ring.Ico_eq_insert (show a + 1 + 1 < a + 6 by omega), bigSep_insert (by simp),
    Ring.Ico_eq_insert (show a + 1 + 1 + 1 < a + 6 by omega), bigSep_insert (by simp),
    Ring.Ico_eq_insert (show a + 1 + 1 + 1 + 1 < a + 6 by omega), bigSep_insert (by simp),
    show Finset.Ico (a + 1 + 1 + 1 + 1 + 1) (a + 6) = {a + 5} by ext y; simp only [Finset.mem_Ico, Finset.mem_singleton]; omega, bigSep_singleton]
  rfl

/-- A slot held, with its semaphore at zero. -/
abbrev freeP (s : Fin 6) : sProp 𝕄 := iprop(cellP c s ∗ ∃ f, slotP c s f)

/-- The full ring: the first six blocks in flight. -/
theorem Rg_zero : Rg c XA 0 = iprop(bigSep (Ring.homeSet 6 0) (homeP c XA)
    ∗ (∃ f, flightP c XA 0 0 f) ∗ (∃ f, flightP c XA 1 1 f) ∗ (∃ f, flightP c XA 2 2 f) ∗ (∃ f, flightP c XA 3 3 f)
    ∗ (∃ f, flightP c XA 4 4 f) ∗ (∃ f, flightP c XA 5 5 f)) := by
  unfold Rg
  rw [bigSep_six]
  rfl

/-- The ring at rest: every block home, every slot free. -/
def rest : sProp 𝕄 := iprop(bigSep Finset.univ (homeP c XA)
    ∗ freeP (F := F) c 0 ∗ freeP (F := F) c 1 ∗ freeP (F := F) c 2 ∗ freeP (F := F) c 3 ∗ freeP (F := F) c 4 ∗ freeP (F := F) c 5)

/-- The ring after the last step is the ring at rest. -/
theorem Rg_last : Rg c XA 32 ⊢ rest c XA := by
  unfold Rg rest
  rw [bigSep_six, Ring.homeSet_last 6 32 (le_refl _)]
  have e : ∀ y : ℕ, 32 ≤ y → slotX c XA y = freeP c (Ring.sl 6 y) := fun y h => by unfold slotX; rw [if_neg (by omega)]
  rw [e _ (by omega), e _ (by omega), e _ (by omega), e _ (by omega), e _ (by omega), e _ (by omega)]
  iintro ⟨Hh, H2, H3, H4, H5, H0, H1⟩
  isplitl [Hh]; · iexact Hh
  isplitl [H0]; · iexact H0
  isplitl [H1]; · iexact H1
  isplitl [H2]; · iexact H2
  isplitl [H3]; · iexact H3
  isplitl [H4]; · iexact H4
  iexact H5

/-- At rest, the first six blocks apart. -/
theorem homes_six : bigSep Finset.univ (homeP c XA)
    = iprop(homeP c XA 0 ∗ homeP c XA 1 ∗ homeP c XA 2 ∗ homeP c XA 3 ∗ homeP c XA 4 ∗ homeP c XA 5 ∗ bigSep (Ring.homeSet 6 0) (homeP c XA)) := by
  have e : (Finset.univ : Finset (Fin 32)) = insert 0 (insert 1 (insert 2 (insert 3 (insert 4 (insert 5 (Ring.homeSet (NB := 32) 6 0)))))) := by decide
  rw [e, bigSep_insert (by decide), bigSep_insert (by decide), bigSep_insert (by decide), bigSep_insert (by decide), bigSep_insert (by decide), bigSep_insert (by decide)]
  rfl

end Pieces

end Cert.Proof.Ring

end
-- ==== Proof.Ring.Trip.lean ====
/-
  One trip of the optimised kernel's loop: it waits its block of the adjacency matrix, adds the block's part of the
  energy to the row that it carries, and sends a further block into the slot that it has read.
-/
module

public import proofs.«01_k».proof.Proof.Ring.Pieces

@[expose] public section

noncomputable section

namespace Cert.Proof.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

section Trip

variable (c : Dev nD) (XA : Buf (Elt F) (adjM.view.loc (c : Thread nD τ))) (i : grid0.Coords)
  (arg1 : Memref sig .tc .vmem S1x2048x128 .f32) (harg1 : arg1.IsWhole)
  (arg2 : Memref sig .tc .vmem S1x8x2048 .f32) (harg2 : arg2.IsWhole)
  (arg4 : Memref sig .tc .vmem S1x1x128 .f32) (harg4 : arg4.IsWhole)
  (arg5 : Memref sig .tc .vmem S1x1x128 .f32) (harg5 : arg5.IsWhole)
  (v3 : Vec F S1x5x2048 .f32)
  (g1 : Buf (Elt F) (arg1.view.loc (c : Thread nD τ)))

/-- The packed rows' staging buffer. -/
abbrev rowP : sProp 𝕄 := arg1.view.loc (c : Thread nD τ) ↦[arg1.view.set]{fullShare} g1

/-- What a trip runs over: the packed rows, the waits it owes, and the ring before its step. -/
def resAt (x : ℕ) : sProp 𝕄 := iprop(rowP c arg1 g1 ∗ (∃ W, owes (c : Thread nD τ) 0 W) ∗ Rg c XA x)

abbrev tripG (k : Fin k0_t1_loop.trips) (acc : FVec F S1x2048 .f32) : Prog (TpuEff nD τ sig (Elt F) Λ₀ .tc) (FVec F S1x2048 .f32) :=
  k0_t1_body (F := F) i arg1 harg1 arg2 harg2 adjM (Memref.isWhole_whole _) arg4 harg4 arg5 harg5 bufM (Memref.isWhole_whole _) cc0_scratch1 v3 k acc

/-- The row after trip `k`, from the row `acc` before it. -/
def tripVal (k : Fin k0_t1_loop.trips) (acc : FVec F S1x2048 .f32) : FVec F S1x2048 .f32 :=
  k0_pay2 v3 acc
    (arg1.view.readAt (Elt F) (Rect.unit (s := S1x2048x128) (k0_off6 k) S1x512x5.size (k0_off6_inb k)).toLoadRect g1)
    (bufM.view.readAt (Elt F) (Rect.unit (s := S6x512x2048) (k0_off7 i k) S1x512x2048.size (k0_off7_inb i k)).toLoadRect
      (landed c XA (Ring.sl 6 (gg i k.val)) (Ring.bk 32 (gg i k.val)) (slot (Ring.sl 6 (gg i k.val))).view.junk))

set_option backward.proofsInPublic true in
theorem tripRun (k : Fin k0_t1_loop.trips) (acc : FVec F S1x2048 .f32) :
    resAt c XA arg1 g1 (gg i k.val) ⊢ wp frame (wpE (defs₀ (F := F)) 𝒱₀ (c : Thread nD τ) none) Set.univ
      (tripG i arg1 harg1 arg2 harg2 arg4 harg4 arg5 harg5 v3 k acc)
      (fun r => iprop(⌜r = tripVal c XA i arg1 v3 g1 k acc⌝ ∗ resAt c XA arg1 g1 (gg i k.val + 1))) := by
  have hx : gg i k.val < 32 := gg_lt i k
  by_cases h2 : k0_cond2 i k = 1#1
  · have h6 := (cond2_iff i k).1 h2
    unfold resAt
    rw [Rg_here c XA _ h6, Rg_next c XA _ h6]
    iintro ⟨HO, ⟨%W, HW⟩, ⟨Hg, Hrest⟩, ⟨%f0, HF0⟩, Hm⟩
    dsimp only [tripG]
    sl_unfold [k0_t1_body]
    sl_exec
    sl_step
    isplitr; · ipureintro; rfl
    isplitl [HO]; · iexact HO
    isplitl [HW]; · iexists _; iexact HW
    isplitl [HF0_src Hrest]
    · isplitl [HF0_src]; · iexact HF0_src
      iexact Hrest
    isplitl [HF0]
    · iexists ((slot (Ring.sl 6 (gg i k.val))).view.writes (Elt F) (slot (Ring.sl 6 (gg i k.val))).view.junk [⟨Rect.whole S512x2048, payload c XA (Ring.bk 32 (gg i k.val))⟩])
      irw [flightP_after]
      iexact HF0
    iexact Hm
  · have h6 : 32 ≤ gg i k.val + 6 := by
      rcases Nat.lt_or_ge (gg i k.val + 6) 32 with h | h
      · exact absurd ((cond2_iff i k).2 h) h2
      · exact h
    unfold resAt
    rw [Rg_here_tail c XA _ hx, Rg_next_tail c XA _ hx h6]
    iintro ⟨HO, ⟨%W, HW⟩, Hrest, ⟨%f0, HF0⟩, Hm⟩
    dsimp only [tripG]
    sl_unfold [k0_t1_body]
    sl_exec
    sl_step
    isplitr; · ipureintro; rfl
    isplitl [HO]; · iexact HO
    isplitl [HW]; · iexists _; iexact HW
    isplitl [HF0_src Hrest]
    · isplitl [HF0_src]; · iexact HF0_src
      iexact Hrest
    isplitl [HF0 HF0_dst]
    · isplitl [HF0]; · iexact HF0
      iexists _; iexact HF0_dst
    iexact Hm

end Trip

end Cert.Proof.Ring

end
-- ==== Proof.Ring.Body.lean ====
/-
  The optimised kernel's body at one grid point: at the first point it fills the ring, at every point it runs the
  loop over the molecule's four blocks, adds the atoms' own energies, and writes the molecule's energy out.
-/
module

public import proofs.«01_k».proof.Proof.Ring.Trip

@[expose] public section

noncomputable section

namespace Cert.Proof.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

section Body

variable (c : Dev nD) (XA : Buf (Elt F) (adjM.view.loc (c : Thread nD τ))) (i : grid0.Coords)
  (arg1 : Memref sig .tc .vmem S1x2048x128 .f32) (harg1 : arg1.IsWhole)
  (arg2 : Memref sig .tc .vmem S1x8x2048 .f32) (harg2 : arg2.IsWhole)
  (arg4 : Memref sig .tc .vmem S1x1x128 .f32) (harg4 : arg4.IsWhole)
  (arg5 : Memref sig .tc .vmem S1x1x128 .f32) (harg5 : arg5.IsWhole)
  (v3 : Vec F S1x5x2048 .f32)
  (g1 : Buf (Elt F) (arg1.view.loc (c : Thread nD τ)))

/-- The row before trip `k`. -/
def tAcc : ℕ → FVec F S1x2048 .f32
  | 0 => k0_pay1 (F := F)
  | k + 1 => if h : k < k0_t1_loop.trips then tripVal c XA i arg1 v3 g1 ⟨k, h⟩ (tAcc k) else tAcc k

theorem tAcc_succ (k : Fin k0_t1_loop.trips) : tAcc c XA i arg1 v3 g1 (k.val + 1) = tripVal c XA i arg1 v3 g1 k (tAcc c XA i arg1 v3 g1 k.val) := by
  conv_lhs => rw [tAcc]
  rw [dif_pos k.isLt]

/-- The loop's invariant: the row is the fold so far, the ring stands before the trip's step. -/
def inv (k : ℕ) (acc : FVec F S1x2048 .f32) : sProp 𝕄 :=
  iprop(⌜acc = tAcc c XA i arg1 v3 g1 k⌝ ∗ rowP c arg1 g1 ∗ (∃ W, owes (c : Thread nD τ) 0 W) ∗ Rg c XA (gg i k))

/-- A trip keeps it. -/
theorem inv_step (k : Fin k0_t1_loop.trips) (acc : FVec F S1x2048 .f32) :
    inv c XA i arg1 v3 g1 k.val acc ⊢ wp frame (wpE (defs₀ (F := F)) 𝒱₀ (c : Thread nD τ) none) Set.univ
      (tripG i arg1 harg1 arg2 harg2 arg4 harg4 arg5 harg5 v3 k acc) (inv c XA i arg1 v3 g1 (k.val + 1)) := by
  unfold inv
  iintro ⟨%e, H⟩
  subst e
  iapply (wp_wand_r Idealize.ShloMosaic.frame (wpE (defs₀ (F := F)) 𝒱₀ (c : Thread nD τ) none) Set.univ)
  isplitl [H]
  · iapply (tripRun c XA i arg1 harg1 arg2 harg2 arg4 harg4 arg5 harg5 v3 g1 k _)
    unfold resAt; iexact H
  · iintro %r ⟨%e, H'⟩
    isplitr
    · ipureintro; rw [tAcc_succ]; exact e
    unfold resAt; iexact H'

/-- The body on the given staging buffers. -/
abbrev bodyG : Prog (TpuEff nD τ sig (Elt F) Λ₀ .tc) PUnit :=
  cc0__body (F := F) i arg1 harg1 arg2 harg2 adjM (Memref.isWhole_whole _) arg4 harg4 arg5 harg5 bufM (Memref.isWhole_whole _) cc0_scratch1

variable (g2 : Buf (Elt F) (arg2.view.loc (c : Thread nD τ))) (g4 : Buf (Elt F) (arg4.view.loc (c : Thread nD τ)))

/-- The staging buffers of the packed columns, the species' energies and the result. -/
abbrev colP : sProp 𝕄 := arg2.view.loc (c : Thread nD τ) ↦[arg2.view.set]{fullShare} g2
abbrev senP : sProp 𝕄 := arg4.view.loc (c : Thread nD τ) ↦[arg4.view.set]{fullShare} g4
abbrev outP (g5 : Buf (Elt F) (arg5.view.loc (c : Thread nD τ))) : sProp 𝕄 := arg5.view.loc (c : Thread nD τ) ↦[arg5.view.set]{fullShare} g5

abbrev colRead : Vec F S1x5x2048 .f32 :=
  arg2.view.readAt (Elt F) (Rect.unit (s := S1x8x2048) ![0, 0, 0] S1x5x2048.size inb_S1x8x2048_S1x5x2048_0_0_0).toLoadRect g2

/-- What the body writes out. -/
def outVal : FVec F S1x1x128 .f32 :=
  k0_pay3
    (arg2.view.readAt (Elt F) (Rect.unit (s := S1x8x2048) ![0, 5, 0] S1x1x2048.size inb_S1x8x2048_S1x1x2048_0_5_0).toLoadRect g2)
    (tAcc c XA i arg1 (colRead c arg2 g2) g1 k0_t1_loop.trips)
    (arg1.view.readAt (Elt F) (Rect.unit (s := S1x2048x128) ![0, 0, 6] S1x2048x1.size inb_S1x2048x128_S1x2048x1_0_0_6).toLoadRect g1)
    (arg4.view.readAt (Elt F) (Rect.unit (s := S1x1x128) ![0, 0, 0] S1x1x128.size inb_S1x1x128_S1x1x128_0_0_0).toLoadRect g4)

/-- The ring as the body meets it: at rest at the first point, else before the point's first step. -/
def ringIn : sProp 𝕄 := if (i 0).val = 0 then rest c XA else Rg c XA (gg i 0)

/-- With the first six blocks in flight, the ring is as the first point's first step wants it. -/
theorem ring_full (h0 : (i 0).val = 0) : iprop(bigSep (Ring.homeSet 6 0) (homeP c XA)
    ∗ (∃ f, flightP c XA 0 0 f) ∗ (∃ f, flightP c XA 1 1 f) ∗ (∃ f, flightP c XA 2 2 f) ∗ (∃ f, flightP c XA 3 3 f)
    ∗ (∃ f, flightP c XA 4 4 f) ∗ (∃ f, flightP c XA 5 5 f)) ⊢ Rg c XA (gg i 0) := by
  rw [show gg i 0 = 0 by simp only [gg, h0], Rg_zero]

set_option maxHeartbeats 1600000 in
theorem bodyRun (g5 W) (Q : PUnit → sProp 𝕄) :
    iprop((rowP c arg1 g1 ∗ colP c arg2 g2 ∗ senP c arg4 g4 ∗ outP c arg5 g5 ∗ owes (c : Thread nD τ) 0 W ∗ ringIn c XA i)
        ∗ ((rowP c arg1 g1 ∗ colP c arg2 g2 ∗ senP c arg4 g4
            ∗ outP c arg5 (arg5.view.writes (Elt F) g5 [⟨Rect.unit (s := S1x1x128) ![0, 0, 0] S1x1x128.size inb_S1x1x128_S1x1x128_0_0_0, outVal c XA i arg1 arg2 arg4 g1 g2 g4⟩])
            ∗ (∃ W, owes (c : Thread nD τ) 0 W) ∗ Rg c XA (gg i k0_t1_loop.trips)) -∗ Q ⟨⟩))
      ⊢ wp frame (wpE (defs₀ (F := F)) 𝒱₀ (c : Thread nD τ) none) Set.univ (bodyG i arg1 harg1 arg2 harg2 arg4 harg4 arg5 harg5) Q := by
  unfold ringIn
  by_cases h1 : k0_cond1 i = 1#1
  · have h0 : (i 0).val = 0 := (cond1_iff i).1 h1
    rw [if_pos h0]
    unfold rest
    rw [homes_six]
    iintro ⟨⟨H1, H2, H4, H5, HW, ⟨Hb0, Hb1, Hb2, Hb3, Hb4, Hb5, Hh⟩, ⟨Hc0, %f0, Hs0⟩, ⟨Hc1, %f1, Hs1⟩, ⟨Hc2, %f2, Hs2⟩, ⟨Hc3, %f3, Hs3⟩, ⟨Hc4, %f4, Hs4⟩, ⟨Hc5, %f5, Hs5⟩⟩, Hk⟩
    sl_exec
    ihave HR := (ring_full c XA i h0) $$ [Hh Hc0 Hc1 Hc2 Hc3 Hc4 Hc5]
    · isplitl [Hh]; · iexact Hh
      isplitl [Hc0]; · iexists f0; iexact Hc0
      isplitl [Hc1]; · iexists f1; iexact Hc1
      isplitl [Hc2]; · iexists f2; iexact Hc2
      isplitl [Hc3]; · iexists f3; iexact Hc3
      isplitl [Hc4]; · iexists f4; iexact Hc4
      iexists f5; iexact Hc5
    sl_for (inv c XA i arg1 (colRead c arg2 g2) g1) $$ [H1 HW HR]
    case region => exact fun k acc => inv_step c XA i arg1 harg1 arg2 harg2 arg4 harg4 arg5 harg5 _ g1 k acc
    · unfold inv
      isplitr; · ipureintro; rfl
      isplitl [H1]; · iexact H1
      isplitl [HW]; · iexists _; iexact HW
      iexact HR
    iintro %acc HI
    unfold inv
    icases HI with ⟨%e, H1, ⟨%W', HW⟩, HR⟩
    subst e
    sl_exec
    sl_step
    iapply Hk
    isplitl [H1]; · iexact H1
    isplitl [H2]; · iexact H2
    isplitl [H4]; · iexact H4
    isplitl [H5]; · iexact H5
    isplitl [HW]; · iexists _; iexact HW
    iexact HR
  · have h0 : ¬ (i 0).val = 0 := fun h => h1 ((cond1_iff i).2 h)
    rw [if_neg h0]
    iintro ⟨⟨H1, H2, H4, H5, HW, HR⟩, Hk⟩
    sl_exec
    sl_for (inv c XA i arg1 (colRead c arg2 g2) g1) $$ [H1 HW HR]
    case region => exact fun k acc => inv_step c XA i arg1 harg1 arg2 harg2 arg4 harg4 arg5 harg5 _ g1 k acc
    · unfold inv
      isplitr; · ipureintro; rfl
      isplitl [H1]; · iexact H1
      isplitl [HW]; · iexists _; iexact HW
      iexact HR
    iintro %acc HI
    unfold inv
    icases HI with ⟨%e, H1, ⟨%W', HW⟩, HR⟩
    subst e
    sl_exec
    sl_step
    iapply Hk
    isplitl [H1]; · iexact H1
    isplitl [H2]; · iexact H2
    isplitl [H4]; · iexact H4
    isplitl [H5]; · iexact H5
    isplitl [HW]; · iexists _; iexact HW
    iexact HR

end Body

end Cert.Proof.Ring

end
-- ==== Proof.Ring.Launch.lean ====
/-
  The optimised kernel's launch: what the pipeline holds before each grid point, the body at every point, and the run
  of the whole program, which ends with every argument as it was, every semaphore counter at zero and the result's
  array as the points have left it.
-/
module

public import proofs.«01_k».proof.Proof.Ring.Body
public import proofs.«01_k».proof.Proof.Gen.KernelIdeal.Frame

@[expose] public section

set_option maxRecDepth 16384

noncomputable section

namespace Cert.Proof.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat BodyObligation)

variable {F : FTy → Type} [FloatOps F]

local notation "𝕄" => MT nD τ sig Unit (Elt F) ℕ (UD sig nD τ) ℕ

/-! ## The kernel's own semaphores, and the element sets of blocks and slots -/

/-- The six slots' semaphores. -/
abbrev osem : Fin 6 → SemLoc sig := fun s => .dma (cell s).sem
theorem ownSemFacts : Pipeline.OwnSemFacts spec0 osem := by decide

abbrev GB (x : Fin 32) : Finset S8x2048x2048.Idx := (Rect.unit (s := S8x2048x2048) (blkOff x) S1x512x2048.size (blkOff_inb x)).set
abbrev GS (s : Fin 6) : Finset S6x512x2048.Idx := (Rect.unit (s := S6x512x2048) (slotOff s) S1x512x2048.size (slotOff_inb s)).set

theorem blk_set (x : Fin 32) : (blk x).view.set = GB x := (View.set_reshape _ _).trans (View.set_slice_whole _ _)
theorem slot_set (s : Fin 6) : (slot s).view.set = GS s := (View.set_reshape _ _).trans (View.set_slice_whole _ _)

/-- An entry lies in block `x` when its molecule is `x / 4` and its row is among the block's 512. -/
theorem mem_GB (x : Fin 32) (y : S8x2048x2048.Idx) : y ∈ GB x ↔ (y 0).val * 4 + (y 1).val / 512 = x.val := by
  rw [Rect.mem_set_unit]
  have h1 : (y 1).val < 2048 := (y 1).isLt
  have h2 : (y 2).val < 2048 := (y 2).isLt
  constructor
  · intro H
    have a0 : x.val / 4 ≤ (y 0).val ∧ (y 0).val < x.val / 4 + 1 := H 0
    have a1 : x.val % 4 * 512 ≤ (y 1).val ∧ (y 1).val < x.val % 4 * 512 + 512 := H 1
    omega
  · intro H i; fin_cases i
    · show x.val / 4 ≤ (y 0).val ∧ (y 0).val < x.val / 4 + 1; omega
    · show x.val % 4 * 512 ≤ (y 1).val ∧ (y 1).val < x.val % 4 * 512 + 512; omega
    · show 0 ≤ (y 2).val ∧ (y 2).val < 0 + 2048; omega
theorem mem_GS (s : Fin 6) (y : S6x512x2048.Idx) : y ∈ GS s ↔ (y 0).val = s.val := by
  rw [Rect.mem_set_unit]
  have h1 : (y 1).val < 512 := (y 1).isLt
  have h2 : (y 2).val < 2048 := (y 2).isLt
  constructor
  · intro H
    have a0 : s.val ≤ (y 0).val ∧ (y 0).val < s.val + 1 := H 0
    omega
  · intro H i; fin_cases i
    · show s.val ≤ (y 0).val ∧ (y 0).val < s.val + 1; omega
    · show 0 ≤ (y 1).val ∧ (y 1).val < 0 + 512; omega
    · show 0 ≤ (y 2).val ∧ (y 2).val < 0 + 2048; omega

theorem GB_disjoint : ∀ x x' : Fin 32, x ≠ x' → Disjoint (GB x) (GB x') := by
  intro x x' hne; rw [Finset.disjoint_left]; intro y hy hy'; rw [mem_GB] at hy hy'; exact hne (Fin.ext (hy.symm.trans hy'))
theorem GB_cover : (Finset.univ : Finset (Fin 32)).biUnion GB = Finset.univ := by
  ext y; simp only [Finset.mem_biUnion, Finset.mem_univ, true_and, iff_true]
  have h0 : (y 0).val < 8 := (y 0).isLt
  have h1 : (y 1).val < 2048 := (y 1).isLt
  exact ⟨⟨(y 0).val * 4 + (y 1).val / 512, by omega⟩, by rw [mem_GB]⟩
theorem GS_disjoint : ∀ s s' : Fin 6, s ≠ s' → Disjoint (GS s) (GS s') := by
  intro s s' hne; rw [Finset.disjoint_left]; intro y hy hy'; rw [mem_GS] at hy hy'; exact hne (Fin.ext (hy.symm.trans hy'))
theorem GS_cover : (Finset.univ : Finset (Fin 6)).biUnion GS = Finset.univ := by
  ext y; simp only [Finset.mem_biUnion, Finset.mem_univ, true_and, iff_true]; exact ⟨(y 0).cast (by decide), by rw [mem_GS]; rfl⟩

theorem bigSep_slots (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- The adjacency matrices whole are their 32 blocks at home. -/
theorem adj_eq (c : Dev nD) (X : Buf (Elt F) (adjM.view.loc (c : Thread nD τ))) :
    (((c : Thread nD τ).loc main_arg2) ↦{fullShare} X : sProp 𝕄) = bigSep Finset.univ (homeP c X) := by
  rw [Ring.pointsTo_blocks (ℓ := (c : Thread nD τ).loc main_arg2) GB GB_disjoint GB_cover]
  exact bigSep_congr fun b _ => by rw [← blk_set]; rfl

theorem slotP_eq (c : Dev nD) (s : Fin 6) (f) : slotP (F := F) c s f = (((c : Thread nD τ).loc cc0_scratch0) ↦[GS s]{fullShare} f : sProp 𝕄) :=
  congrArg (fun S => (_ ↦[S]{fullShare} f : sProp 𝕄)) (slot_set s)

/-- The scratch buffer whole is its six slots, -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f) ∗ (∃ f, slotP c 3 f) ∗ (∃ f, slotP c 4 f) ∗ ∃ f, slotP c 5 f) : sProp 𝕄) := by
  iintro ⟨%f, H⟩
  ihave H2 := (entails_of_eq ((Ring.pointsTo_blocks (Ix := Unit) (Name := ℕ) (U := UD sig nD τ) (Lvl := ℕ) (q := fullShare) (ℓ := (c : Thread nD τ).loc cc0_scratch0) GS GS_disjoint GS_cover f).trans (bigSep_slots _))) $$ H
  icases H2 with ⟨H0, H1, H2, H3, H4, H5⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  isplitl [H3]
  · iexists f; iapply (entails_of_eq (slotP_eq c 3 f).symm); iexact H3
  isplitl [H4]
  · iexists f; iapply (entails_of_eq (slotP_eq c 4 f).symm); iexact H4
  iexists f; iapply (entails_of_eq (slotP_eq c 5 f).symm); iexact H5
/-- and back. -/
theorem buf_join (c : Dev nD) :
    (iprop((∃ f, slotP c 0 f) ∗ (∃ f, slotP c 1 f) ∗ (∃ f, slotP c 2 f) ∗ (∃ f, slotP c 3 f) ∗ (∃ f, slotP c 4 f) ∗ ∃ f, slotP c 5 f) : sProp 𝕄)
      ⊢ iprop(∃ f : Buf (Elt F) ((c : Thread nD τ).loc cc0_scratch0), ((c : Thread nD τ).loc cc0_scratch0) ↦{fullShare} f) := by
  iintro ⟨⟨%f0, H0⟩, ⟨%f1, H1⟩, ⟨%f2, H2⟩, ⟨%f3, H3⟩, ⟨%f4, H4⟩, ⟨%f5, H5⟩⟩
  iapply (Ring.pointsTo_blocks_join_exists (ℓ := (c : Thread nD τ).loc cc0_scratch0) GS GS_disjoint GS_cover f0)
  irw [bigSep_slots]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  isplitl [H3]
  · iexists f3; iapply (entails_of_eq (slotP_eq c 3 f3)); iexact H3
  isplitl [H4]
  · iexists f4; iapply (entails_of_eq (slotP_eq c 4 f4)); iexact H4
  iexists f5; iapply (entails_of_eq (slotP_eq c 5 f5)); iexact H5

/-- The kernel's own semaphores at zero are the six slots'. -/
theorem ownSems0_eq (c : Dev nD) : (Pipeline.ownSems0 (Ix := Unit) (Name := ℕ) (U := UD sig nD τ) (Lvl := ℕ) (Val := Elt F) (τ := τ) osem c : sProp 𝕄)
    = iprop(cellP c 0 ∗ cellP c 1 ∗ cellP c 2 ∗ cellP c 3 ∗ cellP c 4 ∗ cellP c 5) := by
  unfold Pipeline.ownSems0; rw [bigSep_slots]

/-! ## The pipeline's proof data -/

variable (m : (ℓ : Loc nD τ sig) → Buf (Elt F) ℓ) (ρ : Dev nD → PrngReg)

/-- The adjacency matrices, as the kernel finds them. -/
abbrev XA (c : Dev nD) : Buf (Elt F) (adjM.view.loc (c : Thread nD τ)) := V m c main_arg2

/-- Before point `p`: the core's generator register, and the ring at rest before the first point, before the point's first step afterwards. -/
def Φ (c : Dev nD) (p : ℕ) : sProp 𝕄 :=
  iprop((∃ r, prngReg c r) ∗ if p = 0 then rest c (XA m c) else Rg c (XA m c) (4 * p))

abbrev st0 (t : Fin cfg0.N) : Memref sig .tc .vmem S1x2048x128 .f32 := win0_0.stage (cfg0.slots t 0)
abbrev st1 (t : Fin cfg0.N) : Memref sig .tc .vmem S1x8x2048 .f32 := win0_1.stage (cfg0.slots t 1)
abbrev st2 (t : Fin cfg0.N) : Memref sig .tc .vmem S1x1x128 .f32 := win0_2.stage (cfg0.slots t 2)
abbrev st3 (t : Fin cfg0.N) : Memref sig .tc .vmem S1x1x128 .f32 := win0_3.stage (cfg0.slots t 3)
abbrev hst0 (t : Fin cfg0.N) : (st0 t).IsWhole := hstage0_0 ((cfg0.slots t 0).cast nbuf0_0)
abbrev hst1 (t : Fin cfg0.N) : (st1 t).IsWhole := hstage0_1 ((cfg0.slots t 1).cast nbuf0_1)
abbrev hst2 (t : Fin cfg0.N) : (st2 t).IsWhole := hstage0_2 ((cfg0.slots t 2).cast nbuf0_2)
abbrev hst3 (t : Fin cfg0.N) : (st3 t).IsWhole := hstage0_3 ((cfg0.slots t 3).cast nbuf0_3)

/-- What the body writes out at point `t`. -/
def outAt (c : Dev nD) (t : Fin cfg0.N) : FVec F S1x1x128 .f32 :=
  outVal c (XA m c) (grid0.coords t) (st0 t) (st1 t) (st2 t) ((st0 t).view.rep (iblk m c 0 t)) ((st1 t).view.rep (iblk m c 1 t)) ((st2 t).view.rep (iblk m c 2 t))

def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Φ m c t.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = outAt m c t := by dsimp only [dats]

/-- An input window's staging buffer holds its block at every point. -/
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; dsimp only [dats]) t d).trans
    (by unfold Dat.fetched Dat.blockOf iblk; dsimp only [dats]; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; dsimp only [dats]) t d).trans
    (by unfold Dat.fetched Dat.blockOf iblk; dsimp only [dats]; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; dsimp only [dats]) t d).trans
    (by unfold Dat.fetched Dat.blockOf iblk; dsimp only [dats]; rfl)

/-! ## The body at every point -/

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3)) := rfl
theorem prog_eq (t : Fin cfg0.N) : (defs₀ (F := F)) .tc cfg0.body (cfg0.bodyArgs t (cfg0.slots t))
    = bodyG (grid0.coords t) (st0 t) (hst0 t) (st1 t) (hst1 t) (st2 t) (hst2 t) (st3 t) (hst3 t) :=
  (congrFun defs_tc _).trans rfl

/-- A store of a whole buffer from offset zero leaves what was stored, whatever the buffer held. -/
theorem read_store {sp : Space} (M : Memref sig .tc sp S1x1x128 .f32) (g : M.view.ty.Contents (Elt F)) (v : FVec F S1x1x128 .f32) :
    ∀ (off : Fin 3 → Nat) (h), off = (fun _ => 0) →
      M.view.read (Elt F) (M.view.writes (Elt F) g [⟨Rect.unit (s := S1x1x128) off S1x1x128.size h, v⟩]) = v := by
  rintro off h rfl
  exact View.read_writes_whole _ _ _

theorem coord_val : ∀ t : Fin cfg0.N, ((grid0.coords t) 0).val = t.val := by decide +kernel
theorem trips_eq : k0_t1_loop.trips = 4 := by decide +kernel

/-- The ring before a point is as the body meets it, -/
theorem ring_in (c : Dev nD) (t : Fin cfg0.N) :
    (if (t.castSucc : Fin (cfg0.N + 1)).val = 0 then rest c (XA m c) else Rg c (XA m c) (4 * (t.castSucc : Fin (cfg0.N + 1)).val)) = ringIn c (XA m c) (grid0.coords t) := by
  unfold ringIn
  rw [coord_val]
  simp only [gg, coord_val, Nat.add_zero]
  rfl
/-- and after it as the next one meets it. -/
theorem ring_out (c : Dev nD) (t : Fin cfg0.N) :
    Rg c (XA m c) (gg (grid0.coords t) k0_t1_loop.trips)
      = (if (t.succ : Fin (cfg0.N + 1)).val = 0 then rest c (XA m c) else Rg c (XA m c) (4 * (t.succ : Fin (cfg0.N + 1)).val)) := by
  rw [trips_eq, if_neg (by simp)]
  simp only [gg, coord_val, Fin.val_succ]
  rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3]
  rw [show (dats m 0 c).Φ t.castSucc = Φ m c (t.castSucc : Fin (cfg0.N + 1)).val from rfl, show (dats m 0 c).Φ t.succ = Φ m c (t.succ : Fin (cfg0.N + 1)).val from rfl]
  unfold Dat.owesAt Pipeline.owesWithin
  rw [show (dats m 0 c).owed t.castSucc = 0 from rfl, show (dats m 0 c).owed t.succ = 0 from rfl]
  unfold owns Φ
  rw [ring_in, ← ring_out]
  iintro ⟨⟨Hr, HR⟩, ⟨%W, -, HW⟩, ⟨%d0, %g0, %hg0, H0⟩, ⟨%d1, %g1, %hg1, H1⟩, ⟨%d2, %g2, %hg2, H2⟩, ⟨%d3, %g3, -, H3⟩⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  rw [hg0, hg1, hg2]
  sl_rw [prog_eq t]
  iapply (bodyRun c (XA m c) (grid0.coords t) (st0 t) (hst0 t) (st1 t) (hst1 t) (st2 t) (hst2 t) (st3 t) (hst3 t) _ _ _ g3 W)
  isplitl [H0' H1' H2' H3 HW HR]
  · isplitl [H0']; · iexact H0'
    isplitl [H1']; · iexact H1'
    isplitl [H2']; · iexact H2'
    isplitl [H3]; · iexact H3
    isplitl [HW]; · iexact HW
    iexact HR
  · iintro ⟨H0, H1, H2, H3, ⟨%W', HW⟩, HR⟩
    isplitl [Hr HR]
    · isplitl [Hr]; · iexact Hr
      iexact HR
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    iexists ((st3 t).view.writes (Elt F) g3 [⟨Rect.unit (s := S1x1x128) ![0, 0, 0] S1x1x128.size inb_S1x1x128_S1x1x128_0_0_0, outAt m c t⟩]); isplitr
    · ipureintro; exact read_store (st3 t) g3 (outAt m c t) ![0, 0, 0] inb_S1x1x128_S1x1x128_0_0_0 (by decide)
    unfold outAt
    iexact H3

/-! ## The program around the region -/

theorem hmain : Pipeline.HMainK (Ix := Unit) (Name := ℕ) (U := UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch neither the pipeline's staging nor the adjacency matrices. -/
theorem tail_sub : ∀ ops ∈ ([hostOps1] : List (List (HloOp τ sig (Elt F)))), ∀ op ∈ ops,
    op.bufs ⊆ Pipeline.tailRefsBut sig Pipeline.Prefetch.none spec0 {main_arg2} := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  intro b hb
  rw [Finset.mem_singleton] at hb; subst hb
  simp only [hostOps1, List.mem_cons, List.mem_nil_iff, or_false] at hop
  rcases hop with rfl | rfl
  · exact fun h => by
      rcases Finset.mem_insert.mp h with h | h
      · exact StableHlo.devRef_ne_of_ne (by decide) h
      · exact StableHlo.devRef_ne_of_ne (by decide) (Finset.mem_singleton.mp h)
  · exact fun h => by
      rcases Finset.mem_insert.mp h with h | h
      · exact StableHlo.devRef_ne_of_ne (by decide) h
      · exact StableHlo.devRef_ne_of_ne (by decide) (Finset.mem_singleton.mp h)

theorem hH : ({main_arg2} : Finset (Ref sig .tc)) ⊆ Pipeline.restRefs sig spec0 := by
  intro b hb; rw [Finset.mem_singleton] at hb; subst hb
  exact Pipeline.mem_restRefs_of main_arg2 (by decide) (by decide)

set_option backward.isDefEq.respectTransparency.types false in
/-- The whole program, from any memory with zero counters: it ends, with the pipeline's arrays as the points have left
    them, every other buffer as the operations around the region leave it, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem defs₀ 𝒱₀ ownSemFacts {main_arg2} hH m ρ main
    (fun c => (body_obligation m c).loose) (fun c => (dats m 0 c).share_full fun _ => rfl) (fun _ _ => rfl)
    (V0 m) [hostOps1] tail_sub sfx_fresh sfx_keeps (hmain m) (fun _ _ => rfl)
    (fun c => by
      rw [Pipeline.ΦD_eq, scopedRest0_eq, ownSems0_eq, bigSep_singleton, show (dats m 0 c).Φ 0 = Φ m c 0 from rfl]
      unfold Φ; rw [if_pos rfl]; unfold rest; rw [← adj_eq c (XA m c)]
      iintro ⟨Hb, Hr, ⟨Hc0, Hc1, Hc2, Hc3, Hc4, Hc5⟩, Ha⟩
      ihave Hs := (buf_split c) $$ Hb
      icases Hs with ⟨Hs0, Hs1, Hs2, Hs3, Hs4, Hs5⟩
      isplitl [Hr]; · iexact Hr
      isplitl [Ha]; · iexact Ha
      isplitl [Hc0 Hs0]; · isplitl [Hc0]; · iexact Hc0
                           iexact Hs0
      isplitl [Hc1 Hs1]; · isplitl [Hc1]; · iexact Hc1
                           iexact Hs1
      isplitl [Hc2 Hs2]; · isplitl [Hc2]; · iexact Hc2
                           iexact Hs2
      isplitl [Hc3 Hs3]; · isplitl [Hc3]; · iexact Hc3
                           iexact Hs3
      isplitl [Hc4 Hs4]; · isplitl [Hc4]; · iexact Hc4
                           iexact Hs4
      isplitl [Hc5]; · iexact Hc5
      iexact Hs5)
    (fun c => by
      rw [Pipeline.ΦD_eq, scopedRest0_eq, ownSems0_eq, bigSep_singleton, show (dats m 0 c).Φ (Fin.last cfg0.N) = Φ m c 8 from rfl]
      unfold Φ; rw [if_neg (by decide)]
      iintro ⟨Hr, HR⟩
      ihave HR' := (Rg_last c (XA m c)) $$ HR
      unfold rest; rw [← adj_eq c (XA m c)]
      icases HR' with ⟨Ha, ⟨Hc0, Hs0⟩, ⟨Hc1, Hs1⟩, ⟨Hc2, Hs2⟩, ⟨Hc3, Hs3⟩, ⟨Hc4, Hs4⟩, ⟨Hc5, Hs5⟩⟩
      isplitl [Hs0 Hs1 Hs2 Hs3 Hs4 Hs5]
      · iapply (buf_join c)
        isplitl [Hs0]; · iexact Hs0
        isplitl [Hs1]; · iexact Hs1
        isplitl [Hs2]; · iexact Hs2
        isplitl [Hs3]; · iexact Hs3
        isplitl [Hs4]; · iexact Hs4
        iexact Hs5
      isplitl [Hr]; · iexact Hr
      isplitl [Hc0 Hc1 Hc2 Hc3 Hc4 Hc5]
      · isplitl [Hc0]; · iexact Hc0
        isplitl [Hc1]; · iexact Hc1
        isplitl [Hc2]; · iexact Hc2
        isplitl [Hc3]; · iexact Hc3
        isplitl [Hc4]; · iexact Hc4
        iexact Hc5
      iexact Ha)
    _ (fun _ h => h)

end Cert.Proof.Ring

end
-- ==== Proof.Ring.Same.lean ====
/-
  The optimised kernel's program over the floats' words and its program over the reals are one text, read at two
  instances of the floats. This file states it of the kernel's body, of the host program around it and of the table of
  functions, so that one proof of the run serves both.
-/
module

public import proofs.«01_k».proof.Defs
public import proofs.«01_k».proof.Proof.Gen.Kernel
public import proofs.«01_k».proof.Proof.Gen.KernelIdeal

@[expose] public section

noncomputable section

namespace Cert.Proof.Ring

open Idealize.ShloMosaic Idealize.ShloMosaic.TcCoe Idealize.SL.Sem

variable {F : FTy → Type} [FloatOps F]

set_option maxRecDepth 65536 in
set_option maxHeartbeats 4000000 in
/-- The host program is the same, -/
theorem main_same (c) : Cert.Kernel.main (F := F) c = Cert.KernelIdeal.main (F := F) c := rfl

set_option maxRecDepth 65536 in
set_option maxHeartbeats 4000000 in
/-- the kernel's own functions are the same, -/
theorem defs0_same : Cert.Kernel.defs₀ (F := F) = Cert.KernelIdeal.defs₀ (F := F) := by
  unfold Cert.Kernel.defs₀ Cert.KernelIdeal.defs₀
  refine congrArg Defs.onTc ?_
  funext l x
  rcases l with ⟨l, hl⟩
  obtain rfl : l = 0 := by omega
  exact rfl

set_option maxRecDepth 65536 in
set_option maxHeartbeats 4000000 in
/-- and so is the whole table. -/
theorem defs_same : Cert.Kernel.defs (F := F) = Cert.KernelIdeal.defs (F := F) :=
  congrArg (Pipeline.defs Cert.KernelIdeal.pcfgs) defs0_same

end Cert.Proof.Ring

end
-- ==== Proof.Ring.Frame.lean ====
/-
  The frame of the optimised kernel: it ends, with its arguments as they were and every semaphore counter at zero,
  whatever the floats are. The program over the floats' words and the program over the reals are one text; the proof
  is made once, for the text, and serves both.
-/
module

public import proofs.«01_k».proof.Proof.Ring.Launch
public import proofs.«01_k».proof.Proof.Ring.Same

@[expose] public section

set_option maxRecDepth 16384

noncomputable section

namespace Cert.Proof.Ring

open Cert.KernelIdeal Cert.KernelIdeal.Gen
open Idealize.ShloMosaic
open Idealize.ShloMosaic.TcCoe Idealize.ShloMosaic.Tactic
open Idealize.SL.Sem
open Idealize.ShloMosaic.Rounds

variable {F : FTy → Type} [FloatOps F]
variable (m : (ℓ : Loc nD τ sig) → Buf (Elt F) ℓ) (ρ : Dev nD → PrngReg)

/-- A buffer that is no array of the pipeline and no result of the operations after it is as the pipeline found it. -/
theorem kept (c : Dev nD) (b : Ref sig .tc) (ha : ∀ w, Pipeline.arrRef spec0 w ≠ b) (h2 : b ≠ main_v32) (h3 : b ≠ main_v33) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes, StableHlo.reshape_writes, Finset.mem_singleton]
      exact ⟨StableHlo.devRef_ne_of_ne h2, StableHlo.devRef_ne_of_ne h3⟩)),
    Pipeline.withArrays_of_ne _ c (V0 m c) _ b ha]

/-- The run of the whole program: it ends, every argument is unchanged, every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
    ⟨((h.1 c).2 main_arg0 (Pipeline.mem_restRefs_of main_arg0 (by decide) (by decide))).trans ((kept m c main_arg0 (by decide) (by decide) (by decide)).trans (V_main_arg0 m c)),
      ((h.1 c).2 main_arg1 (Pipeline.mem_restRefs_of main_arg1 (by decide) (by decide))).trans ((kept m c main_arg1 (by decide) (by decide) (by decide)).trans (V_main_arg1 m c)),
      ((h.1 c).2 main_arg2 (Pipeline.mem_restRefs_of main_arg2 (by decide) (by decide))).trans ((kept m c main_arg2 (by decide) (by decide) (by decide)).trans (V_main_arg2 m c)),
      ((h.1 c).2 main_arg3 (Pipeline.mem_restRefs_of main_arg3 (by decide) (by decide))).trans ((kept m c main_arg3 (by decide) (by decide) (by decide)).trans (V_main_arg3 m c)),
      ((h.1 c).2 main_arg4 (Pipeline.mem_restRefs_of main_arg4 (by decide) (by decide))).trans ((kept m c main_arg4 (by decide) (by decide) (by decide)).trans (V_main_arg4 m c)),
      ((h.1 c).2 main_arg5 (Pipeline.mem_restRefs_of main_arg5 (by decide) (by decide))).trans ((kept m c main_arg5 (by decide) (by decide) (by decide)).trans (V_main_arg5 m c))⟩, h.2⟩) (run_main m ρ)

/-- A run of one program is a run of an equal one. -/
theorem run_of_eq {Λ : Labels} {D D' : Defs nD τ sig (Elt F) Λ} {M M' : Dev nD → Prog (TpuEff nD τ sig (Elt F) Λ .tc) PUnit} (hD : D = D') (hM : M = M') {s Q}
    (h : θ_run D' (onTc (τ := τ) M') s Q) : θ_run D (onTc (τ := τ) M) s Q := by
  subst hD; subst hM; exact h

set_option maxRecDepth 65536 in
set_option maxHeartbeats 4000000 in
/-- The frame of the program over the floats' words. -/
theorem frame_bits : Cert.quiescent_Kernel := fun m ρ _ =>
  run_of_eq (F := Bits) defs_same (funext main_same) (frame (F := Bits) m ρ)

end Cert.Proof.Ring

end
-- ==== Proof.Sane.lean ====
/- What the precondition says of the arguments: the species indices are entries of the table, the positions and the weight are reals. -/
module

public import proofs.«01_k».proof.Proof.Gen.Pre_sane
public import Idealize.ShloMosaic.Lib.Pointwise
public import Idealize.ShloMosaic.Lib.Routing.OpsPair

@[expose] public section

namespace Cert.Proof

open Idealize.ShloMosaic Cert.Pre_sane Cert.Pre_sane.Gen

/-- A bit made of a proposition is set when the proposition holds. -/
theorem of_bit {p : Prop} [Decidable p] (h : BitVec.ofBool (decide p) = 1#1) : p := by
  by_contra hp
  rw [decide_eq_false hp] at h
  exact absurd h (by decide)

/-- An extended real whose absolute value is below infinity is a real. -/
theorem real_of_abs_lt {x : EReal} (h : max x (-x) < ⊤) : ∃ r : ℝ, x = (r : EReal) := by
  induction x using EReal.rec with
  | bot => simp at h
  | coe r => exact ⟨r, rfl⟩
  | top => simp at h

/-- The float word of infinity. -/
theorem inf_f32 : Ideal.ofBits .f32 0x7F800000#32 = ⊤ := by
  simp [Ideal.ofBits, Ideal.ieee]

/-- A word that is, read signed, at least 0 and below 100 is the word of such a number. -/
theorem word_of_bounds (w : BitVec 32) (h : IntOp.andi (IntOp.cmpi .sge w 0#32) (IntOp.cmpi .slt w 100#32) = 1#1) :
    ∃ k : Fin 100, w = BitVec.ofNat 32 k.val := by
  have h' : BitVec.sle 0#32 w = true ∧ BitVec.slt w 100#32 = true := by
    revert h
    simp only [IntOp.andi, IntOp.cmpi]
    cases BitVec.sle 0#32 w <;> cases BitVec.slt w 100#32 <;> decide
  obtain ⟨h1, h2⟩ := h'
  rw [BitVec.sle_eq_decide, decide_eq_true_eq] at h1
  rw [BitVec.slt_eq_decide, decide_eq_true_eq] at h2
  have e1 : (0#32 : BitVec 32).toInt = 0 := by decide
  have e2 : (100#32 : BitVec 32).toInt = 100 := by decide
  rw [e1] at h1
  rw [e2] at h2
  refine ⟨⟨w.toInt.toNat, by omega⟩, ?_⟩
  apply BitVec.eq_of_toInt_eq
  have : w.toInt.toNat < 100 := by omega
  rw [BitVec.toInt_eq_toNat_of_lt (x := BitVec.ofNat 32 _) (by rw [BitVec.toNat_ofNat]; show 2 * (w.toInt.toNat % 2 ^ 32) < 2 ^ 32; omega), BitVec.toNat_ofNat]
  show w.toInt = ((w.toInt.toNat % 2 ^ 32 : Nat) : Int)
  omega

variable (a0 : IVec S8x2048 32) (a1 : FVec Ideal S8x2048x3 .f32) (a2 : IVec S8x2048x2048 32) (a3 : IVec S8x2048 1) (a4 : FVec Ideal S100 .f32)
  (a5 : FVec Ideal S_ .f32)

/-- The first condition: every species index is the word of a number below 100. -/
theorem sane_ids (h : (Cert.Pre_sane.fn (F := Ideal) a0 a1 a2 a3 a4 a5).1 = fun _ => 1#1) (b : Fin 8) (n : Fin 2048) :
    ∃ k : Fin 100, a0 (ix2 b n) = BitVec.ofNat 32 k.val := by
  have e := congrFun h (ix2 b n)
  unfold Cert.Pre_sane.fn at e
  pointwise at e
  exact word_of_bounds _ e

/-- The second condition: every coordinate is a real. -/
theorem sane_pos (h : (Cert.Pre_sane.fn (F := Ideal) a0 a1 a2 a3 a4 a5).2.1 = fun _ => 1#1) (b : Fin 8) (n : Fin 2048) (x : Fin 3) :
    ∃ r : ℝ, a1 (ix3 b n x) = (r : EReal) := by
  have e := congrFun h (ix3 b n x)
  unfold Cert.Pre_sane.fn at e
  pointwise at e
  refine real_of_abs_lt (inf_f32 ▸ of_bit e)

/-- The third condition: the weight is a real. -/
theorem sane_weight (h : (Cert.Pre_sane.fn (F := Ideal) a0 a1 a2 a3 a4 a5).2.2 = fun _ => 1#1) : ∃ r : ℝ, a5 ix0 = (r : EReal) := by
  have e := congrFun h ix0
  unfold Cert.Pre_sane.fn at e
  pointwise at e
  refine real_of_abs_lt (inf_f32 ▸ of_bit e)

end Cert.Proof
-- ==== Proof.Simple.SpeciesRow.lean ====
module

public import proofs.«01_k».proof.Proof.Gen.SimpleIdeal.Frame
public import Idealize.ShloMosaic.Lib.Pointwise
public import Idealize.ShloMosaic.Lib.Routing.OpsSet
public import Idealize.ShloMosaic.Lib.Routing.OpsPair

@[expose] public section

set_option maxRecDepth 16384

/-! # The species row: a table of 100 energies written into the first 100 of 128 lanes -/

namespace Cert.Proof.Simple

open Idealize.ShloMosaic Cert.SimpleIdeal Cert.SimpleIdeal.Gen

/-- With the three start words zero, update `k` lands at lane `k` of the row. -/
theorem lands (I : IVec S3 32) (hI : ∀ k, I k = 0#32) (k : Fin 100) (l : Fin 128) :
    scatter_S1x1x128_S3_S100_0_01_012_0.resultIdx? (ix1 k) I = some (ix3 0 0 l) ↔ k.val = l.val := by
  rw [Routing.resultIdx?_eq_some]
  have hs : ∀ a, scatter_S1x1x128_S3_S100_0_01_012_0.start (ix1 k) I a = 0 := by
    intro a
    unfold ScatterDims.start
    split
    · rw [hI]; rfl
    · rfl
  have w0 : scatter_S1x1x128_S3_S100_0_01_012_0.window (ix1 k) 0 = 0 := rfl
  have w1 : scatter_S1x1x128_S3_S100_0_01_012_0.window (ix1 k) 1 = 0 := rfl
  have w2 : scatter_S1x1x128_S3_S100_0_01_012_0.window (ix1 k) 2 = k.val := rfl
  constructor
  · intro h
    have h2 := h 2
    rw [hs, w2] at h2
    have : (0 : Int) + (k.val : Int) = (l.val : Int) := h2
    omega
  · intro h a
    rw [hs]
    match a with
    | ⟨0, _⟩ => exact (congrArg (fun n : Nat => (0 : Int) + n) w0)
    | ⟨1, _⟩ => exact (congrArg (fun n : Nat => (0 : Int) + n) w1)
    | ⟨2, _⟩ =>
      refine (congrArg (fun n : Nat => (0 : Int) + n) w2).trans ?_
      show (0 : Int) + (k.val : Int) = (l.val : Int)
      omega

/-- The scattered row at lane `l`: entry `l` of the table when there is one, else what was there. -/
theorem scatter_row (z : FVec Ideal S1x1x128 .f32) (I : IVec S3 32) (hI : ∀ k, I k = 0#32) (u : FVec Ideal S100 .f32) (l : Fin 128) :
    Host.scatter scatter_S1x1x128_S3_S100_0_01_012_0 (fun _ b => b) z I u (ix3 0 0 l)
      = if h : l.val < 100 then u (ix1 ⟨l.val, h⟩) else z (ix3 0 0 l) := by
  split
  · next h =>
    refine Routing.scatter_set_hit _ _ _ _ _ _ (fun k hk => ?_) (ix1 ⟨l.val, h⟩) ((lands I hI _ _).2 rfl)
    obtain ⟨k0, rfl⟩ : ∃ k0 : Fin 100, k = ix1 k0 := ⟨k 0, eq_ix1 k⟩
    have := (lands I hI _ _).1 hk
    exact congrArg (fun q => u (ix1 q)) (Fin.ext this)
  · next h =>
    refine Routing.scatter_set_miss _ _ _ _ _ (fun k hk => ?_)
    obtain ⟨k0, rfl⟩ : ∃ k0 : Fin 100, k = ix1 k0 := ⟨k 0, eq_ix1 k⟩
    have := (lands I hI _ _).1 hk
    have := k0.isLt
    omega

end Cert.Proof.Simple
-- ==== Proof.Ring.Operands.lean ====
/- What the host lines before the optimised kernel leave in its operands, read at an index. -/
module

public import proofs.«01_k».proof.Proof.Gen.KernelIdeal.Frame
public import proofs.«01_k».proof.Proof.Simple.SpeciesRow
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Proof.Ring

open Idealize.ShloMosaic Cert.KernelIdeal Cert.KernelIdeal.Gen

variable (m : (ℓ : Loc nD τ sig) → Buf (Elt Ideal) ℓ) (c : Dev nD)

/-! ## The arguments, by what they are -/

/-- The species index of every atom. -/
abbrev ids : IVec S8x2048 32 := m ((c.tc : Thread nD τ).loc main_arg0)
/-- The atoms' positions. -/
abbrev pos : FVec Ideal S8x2048x3 .f32 := m ((c.tc : Thread nD τ).loc main_arg1)
/-- The adjacency of every molecule. -/
abbrev adj : IVec S8x2048x2048 32 := m ((c.tc : Thread nD τ).loc main_arg2)
/-- The mask of the atoms that are there. -/
abbrev msk : IVec S8x2048 1 := m ((c.tc : Thread nD τ).loc main_arg3)
/-- The energy of each species. -/
abbrev spe : FVec Ideal S100 .f32 := m ((c.tc : Thread nD τ).loc main_arg4)
/-- The weight of the pair term. -/
abbrev pwt : FVec Ideal S_ .f32 := m ((c.tc : Thread nD τ).loc main_arg5)

/-- A mask bit as a number. -/
abbrev mk (b : Fin 8) (n : Fin 2048) : EReal := FloatOps.uitofp (F := Ideal) .f32 (msk m c (ix2 b n))
/-- An atom's species index, and −1 where the mask leaves it out. -/
abbrev mid1 (b : Fin 8) (n : Fin 2048) : BitVec 32 := Scalar.select (msk m c (ix2 b n)) (ids m c (ix2 b n)) 4294967295#32

/-! ## The row pack -/

/-- The mask as a column of numbers. -/
def maskCol (k : IVec S8x2048 1) : FVec Ideal S8x2048x1 .f32 :=
  broadcastInDim S8x2048x1 ![0, 1] bcast_S8x2048_S8x2048x1_0_1 (uitofp (F := Ideal) .f32 k)
/-- The squared lengths as a column. -/
def r2Col (x : FVec Ideal S8x2048x3 .f32) : FVec Ideal S8x2048x1 .f32 :=
  broadcastInDim S8x2048x1 ![0, 1] bcast_S8x2048_S8x2048x1_0_1
    (Host.reduceAdd (mulf x x) (constant (F := Ideal) S_ .f32 0x00000000#32) reducesTo_S8x2048x3_S8x2048_d2 h_S_)

/-- The seven lanes of the row pack that hold something. -/
def rowCat (x : FVec Ideal S8x2048x3 .f32) (k : IVec S8x2048 1) (n : IVec S8x2048 32) : FVec Ideal S8x2048x7 .f32 :=
  concatenate S8x2048x7 2 [⟨S8x2048x3, mulf x (broadcastInDim S8x2048x3 ![0, 1, 2] bcast_S8x2048x1_S8x2048x3_0_1_2 (maskCol k))⟩,
    ⟨S8x2048x1, mulf (r2Col x) (maskCol k)⟩, ⟨S8x2048x1, maskCol k⟩, ⟨S8x2048x1, maskCol k⟩,
    ⟨S8x2048x1, broadcastInDim S8x2048x1 ![0, 1] bcast_S8x2048_S8x2048x1_0_1 (sitofp (F := Ideal) .f32
      (select k n (broadcastInDim S8x2048 ![] bcast_S_S8x2048 (id (constantI S_ 32 4294967295#32)))))⟩]
    concatenates_S8x2048x3_S8x2048x1_S8x2048x1_S8x2048x1_S8x2048x1_S8x2048x7_d2

set_option maxHeartbeats 8000000 in
/-- The row pack is the seven lanes padded to 128. -/
theorem row_eq : (V m c main_v12 : FVec Ideal S8x2048x128 .f32)
    = pad S8x2048x128 ![0, 0, 0] ![0, 0, 121] ![0, 0, 0] (rowCat (pos m c) (msk m c) (ids m c))
        (sitofp (F := Ideal) .f32 (constantI S_ 32 0#32)) pads_S8x2048x7_S8x2048x128_000_000_01210 h_S_ := by
  rfl

/-- The row pack at a lane. -/
theorem row_apply (b : Fin 8) (n : Fin 2048) (l : Fin 128) :
    (V m c main_v12 : FVec Ideal S8x2048x128 .f32) (ix3 b n l)
      = (if _h : l.val < 7 then
          if h1 : l.val < 3 then pos m c (ix3 b n ⟨l.val, h1⟩) * mk m c b n
          else if _h : l.val - 3 < 1 then (∑ x : Fin 3, pos m c (ix3 b n x) * pos m c (ix3 b n x)) * mk m c b n
          else if _h : l.val - 3 - 1 < 1 then mk m c b n
          else if _h : l.val - 3 - 1 - 1 < 1 then mk m c b n
          else FloatOps.sitofp (F := Ideal) .f32 (mid1 m c b n)
        else FloatOps.sitofp (F := Ideal) .f32 0#32 : EReal) := by
  rw [row_eq]
  pointwise [rowCat, maskCol, r2Col]
  rfl

/-- Lanes 0, 1 and 2: the position, where the mask keeps the atom. -/
theorem row_pos (b : Fin 8) (n : Fin 2048) (x : Fin 3) :
    (V m c main_v12 : FVec Ideal S8x2048x128 .f32) (ix3 b n ⟨x.val, by omega⟩) = pos m c (ix3 b n x) * mk m c b n :=
  (row_apply m c b n _).trans (by rw [dif_pos (show x.val < 7 by omega), dif_pos x.isLt])
/-- Lane 3: the squared length, where the mask keeps the atom. -/
theorem row_sq (b : Fin 8) (n : Fin 2048) :
    (V m c main_v12 : FVec Ideal S8x2048x128 .f32) (ix3 b n 3) = (∑ x : Fin 3, pos m c (ix3 b n x) * pos m c (ix3 b n x)) * mk m c b n :=
  row_apply m c b n 3
/-- Lane 4: the mask. -/
theorem row_mask (b : Fin 8) (n : Fin 2048) :
    (V m c main_v12 : FVec Ideal S8x2048x128 .f32) (ix3 b n 4) = mk m c b n :=
  row_apply m c b n 4
/-- Lane 6: the species index, and −1 where the mask leaves the atom out. -/
theorem row_id (b : Fin 8) (n : Fin 2048) :
    (V m c main_v12 : FVec Ideal S8x2048x128 .f32) (ix3 b n 6) = FloatOps.sitofp (F := Ideal) .f32 (mid1 m c b n) :=
  row_apply m c b n 6

/-- The column pack: eight rows, of which six hold something. -/
def colCat (x : FVec Ideal S8x2048x3 .f32) (k : IVec S8x2048 1) (w : FVec Ideal S_ .f32) : FVec Ideal S8x8x2048 .f32 :=
  concatenate S8x8x2048 1 [
    ⟨S8x3x2048, mulf (broadcastInDim S8x3x2048 ![] bcast_S_S8x3x2048 (constant (F := Ideal) S_ .f32 0xC0000000#32))
      (transpose S8x3x2048 [0, 2, 1] x transposes_S8x2048x3_S8x3x2048_0_2_1)⟩,
    ⟨S8x1x2048, broadcastInDim S8x1x2048 ![] bcast_S_S8x1x2048 (constant (F := Ideal) S_ .f32 0x3F800000#32)⟩,
    ⟨S8x1x2048, addf (transpose S8x1x2048 [0, 2, 1] (r2Col x) transposes_S8x2048x1_S8x1x2048_0_2_1)
      (broadcastInDim S8x1x2048 ![] bcast_S_S8x1x2048 (constant (F := Ideal) S_ .f32 0x3951B717#32))⟩,
    ⟨S8x1x2048, mulf (broadcastInDim S8x1x2048 ![] bcast_S_S8x1x2048 w)
      (broadcastInDim S8x1x2048 ![0, 2] bcast_S8x2048_S8x1x2048_0_2 (uitofp (F := Ideal) .f32 k))⟩,
    ⟨S8x2x2048, broadcastInDim S8x2x2048 ![] bcast_S_S8x2x2048 (constant (F := Ideal) S_ .f32 0x00000000#32)⟩]
    concatenates_S8x3x2048_S8x1x2048_S8x1x2048_S8x1x2048_S8x2x2048_S8x8x2048_d1

set_option maxHeartbeats 8000000 in
/-- The column pack, line by line. -/
theorem col_eq : (V m c main_v24 : FVec Ideal S8x8x2048 .f32) = colCat (pos m c) (msk m c) (pwt m c) := by
  rfl

/-- The column pack at a row. -/
theorem col_apply (b : Fin 8) (l : Fin 8) (n : Fin 2048) :
    (V m c main_v24 : FVec Ideal S8x8x2048 .f32) (ix3 b l n)
      = (if h : l.val < 3 then Ideal.ofBits .f32 0xC0000000#32 * pos m c (ix3 b n ⟨l.val, h⟩)
        else if _h : l.val - 3 < 1 then 1
        else if _h : l.val - 3 - 1 < 1 then (∑ x : Fin 3, pos m c (ix3 b n x) * pos m c (ix3 b n x)) + Ideal.ofBits .f32 0x3951B717#32
        else if _h : l.val - 3 - 1 - 1 < 1 then pwt m c ix0 * mk m c b n else 0 : EReal) := by
  rw [col_eq]
  pointwise [colCat, r2Col]

/-- Rows 0, 1 and 2: the position, times −2. -/
theorem col_pos (b : Fin 8) (n : Fin 2048) (x : Fin 3) :
    (V m c main_v24 : FVec Ideal S8x8x2048 .f32) (ix3 b ⟨x.val, by omega⟩ n) = Ideal.ofBits .f32 0xC0000000#32 * pos m c (ix3 b n x) :=
  (col_apply m c b _ n).trans (by rw [dif_pos x.isLt])
/-- Row 3: ones. -/
theorem col_one (b : Fin 8) (n : Fin 2048) : (V m c main_v24 : FVec Ideal S8x8x2048 .f32) (ix3 b 3 n) = (1 : EReal) :=
  col_apply m c b 3 n
/-- Row 4: the squared length, softened. -/
theorem col_sq (b : Fin 8) (n : Fin 2048) : (V m c main_v24 : FVec Ideal S8x8x2048 .f32) (ix3 b 4 n)
    = (∑ x : Fin 3, pos m c (ix3 b n x) * pos m c (ix3 b n x)) + Ideal.ofBits .f32 0x3951B717#32 :=
  col_apply m c b 4 n
/-- Row 5: the weight of the pair term, where the mask keeps the atom. -/
theorem col_weight (b : Fin 8) (n : Fin 2048) : (V m c main_v24 : FVec Ideal S8x8x2048 .f32) (ix3 b 5 n) = pwt m c ix0 * mk m c b n :=
  col_apply m c b 5 n

set_option maxHeartbeats 4000000 in
/-- The species row is the table scattered into a row of zeros at start words that are all zero. -/
theorem species_eq : (V m c main_v30 : FVec Ideal S1x1x128 .f32)
    = Host.scatter scatter_S1x1x128_S3_S100_0_01_012_0 (fun _ b => b)
        (broadcastInDim S1x1x128 ![] bcast_S_S1x1x128 (constant (F := Ideal) S_ .f32 0x00000000#32))
        (concatenate S3 0 [⟨S1, broadcastInDim S1 ![] bcast_S_S1 (constantI S_ 32 0#32)⟩,
          ⟨S1, broadcastInDim S1 ![] bcast_S_S1 (constantI S_ 32 0#32)⟩,
          ⟨S1, broadcastInDim S1 ![] bcast_S_S1 (constantI S_ 32 0#32)⟩] concatenates_S1_S1_S1_S3_d0)
        (spe m c) := by
  rfl

/-- The species row at a lane: the table's entry, and zero past the table. -/
theorem species_apply (l : Fin 128) :
    (V m c main_v30 : FVec Ideal S1x1x128 .f32) (ix3 0 0 l) = if h : l.val < 100 then spe m c (ix1 ⟨l.val, h⟩) else (0 : EReal) := by
  rw [species_eq]
  refine (Simple.scatter_row _ _ ?_ _ l).trans ?_
  · intro k
    obtain ⟨k0, rfl⟩ : ∃ k0 : Fin 3, k = ix1 k0 := ⟨k 0, eq_ix1 k⟩
    pointwise
    split <;> simp
  · split
    · rfl
    · pointwise

end Cert.Proof.Ring
-- ==== Proof.Ring.Reads.lean ====
/- What the optimised kernel reads: the blocks of its operands, and the block of the adjacency that has landed in a slot. -/
module

public import proofs.«01_k».proof.Proof.Ring.Launch
public import Idealize.ShloMosaic.Lib.Pipeline.ValueKit
public import Idealize.ShloMosaic.Lib.Pointwise
public import Idealize.ShloMosaic.Lib.VecWindow

@[expose] public section

set_option maxRecDepth 16384

noncomputable section

namespace Cert.Proof.Ring

open Idealize.ShloMosaic Idealize.ShloMosaic.TcCoe Cert.KernelIdeal Cert.KernelIdeal.Gen

variable {F : FTy → Type} [FloatOps F]

/-- An array whose cast less the leading axis is `w` holds `w`'s entries. -/
theorem cast_at (v : IVec S1x512x2048 32) (w : IVec S512x2048 32) (e : shapeCast S512x2048 v shapeCasts_S1x512x2048_S512x2048 = w)
    (r : Fin 512) (j : Fin 2048) : v (ix3 0 r j) = w (ix2 r j) := by
  subst e
  pointwise

/-- A slot as a part of the buffer: reading it is reading the buffer at its rectangle, less the leading axis. -/
theorem slot_part (s : Fin 6) (g : bufM.view.ty.Contents (Elt F)) (r : Fin 512) (j : Fin 2048) :
    (bufM.view.readAt (Elt F) (Rect.unit (s := S6x512x2048) (slotOff s) S1x512x2048.size (slotOff_inb s)).toLoadRect g : IVec S1x512x2048 32) (ix3 0 r j)
      = ((slot s).view.read (Elt F) g : IVec S512x2048 32) (ix2 r j) := by
  have e2 : (shapeCast S512x2048 (bufM.view.readAt (Elt F) (Rect.unit (s := S6x512x2048) (slotOff s) S1x512x2048.size (slotOff_inb s)).toLoadRect
        g : IVec S1x512x2048 32) shapeCasts_S1x512x2048_S512x2048 : IVec S512x2048 32) = (slot s).view.read (Elt F) g :=
    (Memref.read_squeeze_slice bufM (Rect.unit (s := S6x512x2048) (slotOff s) S1x512x2048.size (slotOff_inb s)) (fun _ => rfl)
      squeezes_S1x512x2048_S512x2048 shapeCasts_S1x512x2048_S512x2048 g).symm
  exact cast_at _ _ e2 r j

/-- A block of the adjacency: 512 rows of a molecule. -/
theorem blk_part (x : Fin 32) (g : adjM.view.ty.Contents (Elt F)) (r : Fin 512) (j : Fin 2048) :
    ((blk x).view.read (Elt F) g : IVec S512x2048 32) (ix2 r j)
      = (g : IVec S8x2048x2048 32) (ix3 (⟨x.val / 4, by have := x.isLt; omega⟩ : Fin 8) (⟨x.val % 4 * 512 + r.val, by have := r.isLt; omega⟩ : Fin 2048) j) := by
  have e2 : (shapeCast S512x2048 (adjM.view.readAt (Elt F) (Rect.unit (s := S8x2048x2048) (blkOff x) S1x512x2048.size (blkOff_inb x)).toLoadRect
        g : IVec S1x512x2048 32) shapeCasts_S1x512x2048_S512x2048 : IVec S512x2048 32) = (blk x).view.read (Elt F) g :=
    (Memref.read_squeeze_slice adjM (Rect.unit (s := S8x2048x2048) (blkOff x) S1x512x2048.size (blkOff_inb x)) (fun _ => rfl)
      squeezes_S1x512x2048_S512x2048 shapeCasts_S1x512x2048_S512x2048 g).symm
  refine (cast_at _ _ e2 r j).symm.trans ?_
  rw [View.readAt_apply]
  refine congrArg (g : IVec S8x2048x2048 32) (funext fun a => Fin.ext ?_)
  fin_cases a
  · exact Nat.add_zero _
  · show x.val % 4 * 512 + 1 * r.val = x.val % 4 * 512 + r.val
    omega
  · show 0 + 1 * j.val = j.val
    omega

/-- The slot that a trip reads holds the trip's block of the adjacency. -/
theorem slot_read (c : Dev nD) (X) (s : Fin 6) (x : Fin 32) (r : Fin 512) (j : Fin 2048)
    (off : Fin 3 → Nat) (inb) (e : off = slotOff s) :
    (bufM.view.readAt (Elt F) (Rect.unit (s := S6x512x2048) off S1x512x2048.size inb).toLoadRect
        (landed c X s x (slot s).view.junk) : IVec S1x512x2048 32) (ix3 0 r j)
      = (X : IVec S8x2048x2048 32) (ix3 (⟨x.val / 4, by have := x.isLt; omega⟩ : Fin 8) (⟨x.val % 4 * 512 + r.val, by have := r.isLt; omega⟩ : Fin 2048) j) := by
  subst e
  refine (slot_part s _ r j).trans ?_
  have e1 : (slot s).view.read (Elt F) (landed c X s x (slot s).view.junk) = payload c X x := View.read_writes_whole _ _ _
  rw [e1]
  exact blk_part x X r j

/-- What a load reads of a window's buffer that holds a block: the block's entries from the load's offsets on. -/
theorem win_read {s : Shape} {e : EltTy} (M : Memref sig .tc .vmem s e) (X : s.Idx → Elt F e) (off : Fin s.rank → Nat) (size : Fin s.rank → Nat) (inb)
    (y : (Rect.unit off size inb).shape.Idx) :
    M.view.readAt (Elt F) (Rect.unit (s := s) off size inb).toLoadRect (M.view.rep X) y = X ((Rect.unit (s := s) off size inb).toLoadRect.idx y) := by
  rw [View.readAt_rep]

end Cert.Proof.Ring
-- ==== Proof.Maths.lean ====
/- The arithmetic of the two programs' distances and sums over the extended reals, away from any program. -/
module

public import Idealize.ShloMosaic.Lib.Pointwise

@[expose] public section

noncomputable section

namespace Cert.Proof

open Idealize.ShloMosaic

/-- The squared distance of two points of real three-space. -/
def sqDist (p q : Fin 3 → ℝ) : ℝ := ∑ x, (p x - q x) * (p x - q x)

theorem sqDist_nonneg (p q : Fin 3 → ℝ) : 0 ≤ sqDist p q :=
  Finset.sum_nonneg fun _ _ => mul_self_nonneg _

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor is distributed over a finite sum of reals, all of it written in the extended reals. -/
theorem coe_mul_sum {ι : Type} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- The square root of a real that is not negative. -/
theorem sqrt_coe {r : ℝ} (h : 0 ≤ r) : Ideal.sqrt (r : EReal) = ((Real.sqrt r : ℝ) : EReal) := by
  show (if r < 0 then (⊥ : EReal) else (Real.sqrt r : EReal)) = _
  rw [if_neg (not_lt.mpr h)]

/-- The reciprocal square root of a positive real. -/
theorem rsqrt_coe {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A positive real times its reciprocal square root is its square root. -/
theorem mul_rsqrt_coe {r : ℝ} (h : 0 < r) : (r : EReal) * Ideal.rsqrt (r : EReal) = ((Real.sqrt r : ℝ) : EReal) := by
  rw [rsqrt_coe h, ← EReal.coe_mul]
  congr 1
  have h0 : Real.sqrt r ≠ 0 := (Real.sqrt_pos.mpr h).ne'
  field_simp
  exact (Real.sq_sqrt h.le).symm

/-- The extended reals' maximum of two reals. -/
theorem coe_max' (a b : ℝ) : max (a : EReal) (b : EReal) = ((max a b : ℝ) : EReal) :=
  (EReal.coe_strictMono.monotone.map_max).symm

/-- The squared distance as the sum of two squared lengths less twice the inner product, cut at zero. -/
theorem gram_sqDist (p q : Fin 3 → ℝ) :
    max ((∑ x, (p x : EReal) * (p x : EReal)) + (∑ x, (q x : EReal) * (q x : EReal))
        - ((2 : ℝ) : EReal) * ∑ x, (p x : EReal) * (q x : EReal)) 0 = ((sqDist p q : ℝ) : EReal) := by
  simp only [← EReal.coe_mul, ← coe_sum, ← EReal.coe_add, ← EReal.coe_sub]
  rw [← EReal.coe_zero, coe_max']
  congr 1
  have e : (∑ x, p x * p x) + (∑ x, q x * q x) - 2 * ∑ x, p x * q x = sqDist p q := by
    simp only [sqDist, Fin.sum_univ_three]; ring
  rw [e, max_eq_left (sqDist_nonneg p q)]

/-- The guarded root: `where (d > 0, sqrt (where (d > 0, d, 1)), 0)` is the root of a real that is not negative. -/
theorem guarded_sqrt {r : ℝ} (h : 0 ≤ r) (one : EReal) :
    (if (0 : EReal) < (r : EReal) then Ideal.sqrt (if (0 : EReal) < (r : EReal) then (r : EReal) else one) else 0)
      = ((Real.sqrt r : ℝ) : EReal) := by
  rcases h.eq_or_lt with h0 | h0
  · subst h0; simp
  · have : (0 : EReal) < (r : EReal) := EReal.coe_pos.mpr h0
    rw [if_pos this, if_pos this, sqrt_coe h]

/-- The one-hot sum over 128 lanes: if exactly lane `s` is hot, it is that lane's entry. -/
theorem onehot_sum {n : Nat} (s : Fin n) (hot : Fin n → EReal) (v : Fin n → EReal)
    (h1 : hot s = 1) (h0 : ∀ k, k ≠ s → hot k = 0) : ∑ k, hot k * v k = v s := by
  rw [Finset.sum_eq_single s (fun k _ hk => by rw [h0 k hk, zero_mul]) (fun h => absurd (Finset.mem_univ _) h), h1, one_mul]

/-- The sum over 2048 rows is the sum over `a` tiles of `b` rows each. -/
theorem sum_tiles (a b : Nat) (f : Fin (a * b) → EReal) :
    ∑ n, f n = ∑ i : Fin a, ∑ r : Fin b, f ⟨b * i.val + r.val, by
      have := i.isLt; have := r.isLt; nlinarith [Nat.mul_le_mul_left b (Nat.succ_le_of_lt i.isLt)]⟩ := by
  rw [← Fintype.sum_prod_type', ← finProdFinEquiv.sum_comp]
  refine Finset.sum_congr rfl fun x _ => congrArg f (Fin.ext ?_)
  simp [finProdFinEquiv, add_comm]

end Cert.Proof
-- ==== Proof.Ring.Points.lean ====
/- What one grid point leaves in its block of the output: its molecule's energy, in every lane. -/
module

public import proofs.«01_k».proof.Proof.Ring.Operands
public import proofs.«01_k».proof.Proof.Ring.Reads
public import proofs.«01_k».proof.Proof.Maths

@[expose] public section

set_option maxRecDepth 16384

noncomputable section

namespace Cert.Proof.Ring

open Idealize.ShloMosaic Idealize.ShloMosaic.TcCoe Cert.KernelIdeal Cert.KernelIdeal.Gen

/-! ## The kernel's three formulas, read at an index -/

/-- The row of column sums starts at zero. -/
theorem pay1_apply (j : Fin 2048) : (k0_pay1 (F := Ideal)) (ix2 0 j) = (0 : EReal) := by
  unfold k0_pay1
  pointwise

/-- A trip adds its block's column sums. -/
theorem pay2_apply (C : FVec Ideal S1x5x2048 .f32) (a : FVec Ideal S1x2048 .f32) (R : FVec Ideal S1x512x5 .f32) (A : IVec S1x512x2048 32) (j : Fin 2048) :
    (k0_pay2 (F := Ideal) C a R A) (ix2 0 j)
      = (a (ix2 0 j) + ∑ r : Fin 512, FloatOps.sitofp (F := Ideal) .f32 (A (ix3 0 r j))
          * (max (∑ x : Fin 5, R (ix3 0 r x) * C (ix3 0 x j)) (Ideal.ofBits .f32 0x2B8CBCCC#32)
            * Ideal.rsqrt (max (∑ x : Fin 5, R (ix3 0 r x) * C (ix3 0 x j)) (Ideal.ofBits .f32 0x2B8CBCCC#32))) : EReal) := by
  unfold k0_pay2
  pointwise

/-- The last lines add the species energies and the weighted column sums. -/
theorem pay3_apply (W : FVec Ideal S1x1x2048 .f32) (a : FVec Ideal S1x2048 .f32) (N : FVec Ideal S1x2048x1 .f32) (E : FVec Ideal S1x1x128 .f32) (l : Fin 128) :
    (k0_pay3 (F := Ideal) W a N E) (ix3 0 0 l)
      = ((∑ n : Fin 2048, ∑ i : Fin 128, FloatOps.sitofp (F := Ideal) .f32 (BitVec.setWidth 32 (BitVec.ofBool
            (decide (N (ix3 0 n 0) = FloatOps.sitofp (F := Ideal) .f32 (BitVec.ofNat 32 i.val))))) * E (ix3 0 0 i))
          + ∑ j : Fin 2048, a (ix2 0 j) * W (ix3 0 0 j) : EReal) := by
  unfold k0_pay3
  pointwise
  rw [Fin.sum_univ_one]

variable (m : (ℓ : Loc nD τ sig) → Buf (Elt Ideal) ℓ) (c : Dev nD)

/-! ## A point's blocks -/

/-- The molecule of a grid point. -/
def mol (t : Fin cfg0.N) : Fin 8 := ⟨t.val, by have h : t.val < 8 := t.isLt; omega⟩

theorem idx0 : ∀ t, win0_0.index t = ![t.val, 0, 0] := by decide +kernel
theorem idx1 : ∀ t, win0_1.index t = ![t.val, 0, 0] := by decide +kernel
theorem idx2 : ∀ t, win0_2.index t = ![0, 0, 0] := by decide +kernel
theorem idx3 : ∀ t, win0_3.index t = ![t.val, 0, 0] := by decide +kernel

/-- The molecule's rows. -/
theorem iblk0 (t : Fin cfg0.N) (r : Fin 2048) (l : Fin 128) :
    (iblk m c 0 t : FVec Ideal S1x2048x128 .f32) (ix3 0 r l) = (V m c main_v12 : FVec Ideal S8x2048x128 .f32) (ix3 (mol t) r l) := by
  blk_ext [iblk, idx0 t, mol]

/-- The molecule's columns. -/
theorem iblk1 (t : Fin cfg0.N) (l : Fin 8) (k : Fin 2048) :
    (iblk m c 1 t : FVec Ideal S1x8x2048 .f32) (ix3 0 l k) = (V m c main_v24 : FVec Ideal S8x8x2048 .f32) (ix3 (mol t) l k) := by
  blk_ext [iblk, idx1 t, mol]

/-- The species row. -/
theorem iblk2 (t : Fin cfg0.N) (l : Fin 128) :
    (iblk m c 2 t : FVec Ideal S1x1x128 .f32) (ix3 0 0 l) = (V m c main_v30 : FVec Ideal S1x1x128 .f32) (ix3 0 0 l) := by
  blk_ext [iblk, idx2 t]

/-! ## What the point computes -/

/-- The row pack's entry for an atom and a lane. -/
abbrev rowV (b : Fin 8) (n : Fin 2048) (l : Fin 128) : EReal := (V m c main_v12 : FVec Ideal S8x2048x128 .f32) (ix3 b n l)
/-- The column pack's entry for a row and an atom. -/
abbrev colV (b : Fin 8) (l : Fin 8) (j : Fin 2048) : EReal := (V m c main_v24 : FVec Ideal S8x8x2048 .f32) (ix3 b l j)
/-- The species row's entry at a lane. -/
abbrev speV (i : Fin 128) : EReal := (V m c main_v30 : FVec Ideal S1x1x128 .f32) (ix3 0 0 i)

/-- The product of an atom's row and an atom's column: a softened squared distance. -/
def dotE (b : Fin 8) (n j : Fin 2048) : EReal :=
  ∑ x : Fin 5, rowV m c b n (x.castLE (by decide)) * colV m c b (x.castLE (by decide)) j

/-- The distance, as the kernel writes it: the square, kept off zero, times its reciprocal root. -/
def distE (b : Fin 8) (n j : Fin 2048) : EReal :=
  max (dotE m c b n j) (Ideal.ofBits .f32 0x2B8CBCCC#32) * Ideal.rsqrt (max (dotE m c b n j) (Ideal.ofBits .f32 0x2B8CBCCC#32))

/-- A pair's share of its column's sum. -/
def pairE (b : Fin 8) (n j : Fin 2048) : EReal := FloatOps.sitofp (F := Ideal) .f32 (adj m c (ix3 b n j)) * distE m c b n j

/-- An atom's species energy, read by a comparison with every lane. -/
def hotE (b : Fin 8) (n : Fin 2048) : EReal :=
  ∑ i : Fin 128, FloatOps.sitofp (F := Ideal) .f32 (BitVec.setWidth 32 (BitVec.ofBool
      (decide (rowV m c b n 6 = FloatOps.sitofp (F := Ideal) .f32 (BitVec.ofNat 32 i.val)))))
    * speV m c i

/-- A molecule's energy as the kernel sums it. -/
def energy (b : Fin 8) : EReal :=
  (∑ n : Fin 2048, hotE m c b n) + ∑ j : Fin 2048, (∑ n : Fin 2048, pairE m c b n j) * colV m c b 5 j

/-- Row `r` of trip `k`'s block, as an atom. -/
def atomOf (k : Fin 4) (r : Fin 512) : Fin 2048 := ⟨512 * k.val + r.val, by have := k.isLt; have := r.isLt; omega⟩

/-- One trip of the loop. -/
theorem trip_apply (t : Fin cfg0.N) (k : Fin 4) (k' : Fin k0_t1_loop.trips) (hk : k'.val = k.val) (acc : FVec Ideal S1x2048 .f32) (j : Fin 2048) :
    tripVal c (XA m c) (grid0.coords t) (st0 t) (colRead c (st1 t) ((st1 t).view.rep (iblk m c 1 t))) ((st0 t).view.rep (iblk m c 0 t)) k' acc (ix2 0 j)
      = (acc (ix2 0 j) + ∑ r : Fin 512, pairE m c (mol t) (atomOf k r) j : EReal) := by
  unfold tripVal
  refine (pay2_apply _ _ _ _ j).trans (congrArg (acc (ix2 0 j) + ·) (Finset.sum_congr rfl fun r _ => ?_))
  have hR : ∀ x : Fin 5, ((st0 t).view.readAt (Elt Ideal) (Rect.unit (s := S1x2048x128) (k0_off6 k') S1x512x5.size (k0_off6_inb k')).toLoadRect
      ((st0 t).view.rep (iblk m c 0 t)) : FVec Ideal S1x512x5 .f32) (ix3 0 r x)
        = rowV m c (mol t) (atomOf k r) (x.castLE (by decide)) := by
    intro x
    refine (win_read (st0 t) (iblk m c 0 t) _ _ _ _).trans (Eq.trans (congrArg (iblk m c 0 t) ?_) (iblk0 m c t (atomOf k r) (x.castLE (by decide))))
    refine funext fun a => Fin.ext ?_
    have eo : k0_off6 k' = ![0, 512 * k.val, 0] := (off6_eq k').trans (by rw [hk])
    refine (congrArg (· + 1 * ((ix3 (0 : Fin 1) r x : S1x512x5.Idx) a).val) (congrFun eo a)).trans ?_
    fin_cases a
    · rfl
    · show 512 * k.val + 1 * r.val = 512 * k.val + r.val
      omega
    · show 0 + 1 * x.val = x.val
      omega
  have hC : ∀ x : Fin 5, (colRead c (st1 t) ((st1 t).view.rep (iblk m c 1 t)) : FVec Ideal S1x5x2048 .f32) (ix3 0 x j)
        = colV m c (mol t) (x.castLE (by decide)) j := by
    intro x
    unfold colRead
    refine (win_read (st1 t) (iblk m c 1 t) _ _ _ _).trans (Eq.trans (congrArg (iblk m c 1 t) ?_) (iblk1 m c t (x.castLE (by decide)) j))
    refine funext fun a => Fin.ext ?_
    fin_cases a
    · rfl
    · show 0 + 1 * x.val = x.val
      omega
    · show 0 + 1 * j.val = j.val
      omega
  have hA : (bufM.view.readAt (Elt Ideal) (Rect.unit (s := S6x512x2048) (k0_off7 (grid0.coords t) k') S1x512x2048.size (k0_off7_inb (grid0.coords t) k')).toLoadRect
      (landed c (XA m c) (Ring.sl 6 (gg (grid0.coords t) k'.val)) (Ring.bk 32 (gg (grid0.coords t) k'.val)) (slot (Ring.sl 6 (gg (grid0.coords t) k'.val))).view.junk)
        : IVec S1x512x2048 32) (ix3 0 r j) = adj m c (ix3 (mol t) (atomOf k r) j) := by
    refine (slot_read c (XA m c) _ _ r j _ _ (off7_eq _ k')).trans ?_
    have e : (XA m c : IVec S8x2048x2048 32) = adj m c := V_main_arg2 m c
    rw [e]
    refine congrArg (adj m c) ?_
    have hv : (Ring.bk 32 (gg (grid0.coords t) k'.val)).val = (4 * t.val + k.val) % 32 := by
      show (4 * ((grid0.coords t) 0).val + k'.val) % 32 = _
      rw [coord_val, hk]
    have h8 : t.val < 8 := t.isLt
    have h4 := k.isLt
    refine funext fun a => Fin.ext ?_
    fin_cases a
    · show (Ring.bk 32 (gg (grid0.coords t) k'.val)).val / 4 = t.val
      rw [hv]; omega
    · show (Ring.bk 32 (gg (grid0.coords t) k'.val)).val % 4 * 512 + r.val = 512 * k.val + r.val
      rw [hv]; omega
    · rfl
  unfold pairE distE dotE
  simp only [hR, hC, hA]

/-- After the loop the row holds every column's sum. -/
theorem sums_apply (t : Fin cfg0.N) (j : Fin 2048) :
    tAcc c (XA m c) (grid0.coords t) (st0 t) (colRead c (st1 t) ((st1 t).view.rep (iblk m c 1 t))) ((st0 t).view.rep (iblk m c 0 t)) k0_t1_loop.trips (ix2 0 j)
      = (∑ n : Fin 2048, pairE m c (mol t) n j : EReal) := by
  rw [trips_eq]
  refine ((congrFun (tAcc_succ c (XA m c) _ _ _ _ ⟨3, by decide +kernel⟩) (ix2 0 j)).trans (trip_apply m c t 3 _ rfl _ j)).trans ?_
  refine (congrArg (· + _) ((congrFun (tAcc_succ c (XA m c) _ _ _ _ ⟨2, by decide +kernel⟩) (ix2 0 j)).trans (trip_apply m c t 2 _ rfl _ j))).trans ?_
  refine (congrArg (· + _ + _) ((congrFun (tAcc_succ c (XA m c) _ _ _ _ ⟨1, by decide +kernel⟩) (ix2 0 j)).trans (trip_apply m c t 1 _ rfl _ j))).trans ?_
  refine (congrArg (· + _ + _ + _) ((congrFun (tAcc_succ c (XA m c) _ _ _ _ ⟨0, by decide +kernel⟩) (ix2 0 j)).trans (trip_apply m c t 0 _ rfl _ j))).trans ?_
  refine (congrArg (· + _ + _ + _ + _) (show tAcc c (XA m c) _ _ _ _ 0 (ix2 0 j) = (0 : EReal) from pay1_apply j)).trans ?_
  rw [zero_add]
  refine Eq.trans ?_ (sum_tiles 4 512 fun n => pairE m c (mol t) n j).symm
  rw [Fin.sum_univ_four]
  rfl

/-- The point's block of the output. -/
theorem out_apply (t : Fin cfg0.N) (l : Fin 128) : (outAt m c t : FVec Ideal S1x1x128 .f32) (ix3 0 0 l) = energy m c (mol t) := by
  unfold outAt outVal
  refine (pay3_apply _ _ _ _ l).trans ?_
  unfold energy hotE
  refine congrArg₂ (· + ·) (Finset.sum_congr rfl fun n _ => Finset.sum_congr rfl fun i _ => ?_) (Finset.sum_congr rfl fun j _ => ?_)
  · have hN : ((st0 t).view.readAt (Elt Ideal) (Rect.unit (s := S1x2048x128) ![0, 0, 6] S1x2048x1.size inb_S1x2048x128_S1x2048x1_0_0_6).toLoadRect
        ((st0 t).view.rep (iblk m c 0 t)) : FVec Ideal S1x2048x1 .f32) (ix3 0 n 0) = rowV m c (mol t) n 6 := by
      refine (win_read (st0 t) (iblk m c 0 t) _ _ _ _).trans (Eq.trans (congrArg (iblk m c 0 t) ?_) (iblk0 m c t n 6))
      refine funext fun a => Fin.ext ?_
      fin_cases a
      · rfl
      · show 0 + 1 * n.val = n.val
        omega
      · rfl
    have hE : ((st2 t).view.readAt (Elt Ideal) (Rect.unit (s := S1x1x128) ![0, 0, 0] S1x1x128.size inb_S1x1x128_S1x1x128_0_0_0).toLoadRect
        ((st2 t).view.rep (iblk m c 2 t)) : FVec Ideal S1x1x128 .f32) (ix3 0 0 i) = speV m c i := by
      refine (win_read (st2 t) (iblk m c 2 t) _ _ _ _).trans (Eq.trans (congrArg (iblk m c 2 t) ?_) (iblk2 m c t i))
      refine funext fun a => Fin.ext ?_
      fin_cases a
      · rfl
      · rfl
      · show 0 + 1 * i.val = i.val
        omega
    rw [hN, hE]
  · have hW : ((st1 t).view.readAt (Elt Ideal) (Rect.unit (s := S1x8x2048) ![0, 5, 0] S1x1x2048.size inb_S1x8x2048_S1x1x2048_0_5_0).toLoadRect
        ((st1 t).view.rep (iblk m c 1 t)) : FVec Ideal S1x1x2048 .f32) (ix3 0 0 j) = colV m c (mol t) 5 j := by
      refine (win_read (st1 t) (iblk m c 1 t) _ _ _ _).trans (Eq.trans (congrArg (iblk m c 1 t) ?_) (iblk1 m c t 5 j))
      refine funext fun a => Fin.ext ?_
      fin_cases a
      · rfl
      · rfl
      · show 0 + 1 * j.val = j.val
        omega
    rw [hW, sums_apply]

end Cert.Proof.Ring
-- ==== Proof.Ring.Value.lean ====
/- What the optimised kernel's program leaves: the output array after the region, and the result the host cuts out of it. -/
module

public import proofs.«01_k».proof.Proof.Ring.Points
public import proofs.«01_k».proof.Proof.Ring.Frame
public import Idealize.ShloMosaic.Lib.Claim

@[expose] public section

set_option maxRecDepth 16384

noncomputable section

namespace Cert.Proof.Ring

open Idealize.ShloMosaic Cert.KernelIdeal Cert.KernelIdeal.Gen

variable (m : (ℓ : Loc nD τ sig) → Buf (Elt Ideal) ℓ) (c : Dev nD)

/-- The output array: every lane of a molecule's block holds its energy. -/
def outArr : FVec Ideal S8x1x128 .f32 := fun i => energy m c (i 0)

theorem arr_out : (dats m 0 c).arrAt 3 cfg0.N = outArr m c := by
  refine (dats m 0 c).arrAt_eq_of_covers 3 _ (by decide +kernel) fun t _ y => ?_
  rw [after_w3]
  obtain ⟨y0, y1, l, rfl⟩ : ∃ (y0 : Fin 1) (y1 : Fin 1) (l : Fin 128), y = ix3 y0 y1 l := ⟨y 0, y 1, y 2, eq_ix3 y⟩
  obtain rfl := Subsingleton.elim y0 0
  obtain rfl := Subsingleton.elim y1 0
  refine (out_apply m c t l).trans (congrArg (energy m c) (Fin.ext ?_))
  blk_simp [idx3 t, mol]
  rfl

/-- The kernel's result: one energy per molecule. -/
def result : FVec Ideal S8 .f32 := fun i => energy m c (i 0)

/-- The lines after the region cut lane 0 of every molecule's block out of the array. -/
theorem tail_result : Pipeline.afterTail₀ cfgs (dats m) 0 (V0 m) [hostOps1] c main_v33 = result m c := by
  unfold Pipeline.afterTail₀
  rw [show Pipeline.withArrays (cfgs 0).spec c (V0 m c) (fun w => (dats m 0 c).arrAt w (cfgs 0).N)
      = Pipeline.withArrays spec0 c (V0 m c) (fun w => (dats m 0 c).arrAt w cfg0.N) from rfl]
  generalize hW : Pipeline.withArrays spec0 c (V0 m c) (fun w => (dats m 0 c).arrAt w cfg0.N) = W
  have e : W (Proc.devRef .tc main_v31) = outArr m c := by
    rw [← hW]
    exact (Pipeline.withArrays_arr spec0 launch0.win.arr_inj c (V0 m c) (fun w => (dats m 0 c).arrAt w cfg0.N) 3).trans (arr_out m c)
  simp only [hostOps1, List.flatten_cons, List.flatten_nil, List.append_nil]
  after_results_simp
  rw [e]
  funext i
  obtain ⟨b, rfl⟩ : ∃ b : Fin 8, i = ix1 b := ⟨i 0, eq_ix1 i⟩
  clean_types
  pointwise [outArr, result]

/-- The run: the result is `result`, and the arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1.1 c).2 main_v33 (Pipeline.mem_restRefs_of main_v33 (by decide) (by decide))).trans (tail_result m c), h.2.1 c⟩)
    (θ_run_and (run_main m ρ) (frame m ρ))

end Cert.Proof.Ring
-- ==== Proof.Simple.Operands.lean ====
/- What the host lines before the region leave in the kernel's operands, read at an index. -/
module

public import proofs.«01_k».proof.Proof.Gen.SimpleIdeal.Frame
public import proofs.«01_k».proof.Proof.Simple.SpeciesRow
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Proof.Simple

open Idealize.ShloMosaic Cert.SimpleIdeal Cert.SimpleIdeal.Gen

variable (m : (ℓ : Loc nD τ sig) → Buf (Elt Ideal) ℓ) (c : Dev nD)

/-! ## The arguments, by what they are -/

/-- The species index of every atom. -/
abbrev ids : IVec S8x2048 32 := m ((c.tc : Thread nD τ).loc main_arg0)
/-- The atoms' positions. -/
abbrev pos : FVec Ideal S8x2048x3 .f32 := m ((c.tc : Thread nD τ).loc main_arg1)
/-- The adjacency of every molecule. -/
abbrev adj : IVec S8x2048x2048 32 := m ((c.tc : Thread nD τ).loc main_arg2)
/-- The mask of the atoms that are there. -/
abbrev msk : IVec S8x2048 1 := m ((c.tc : Thread nD τ).loc main_arg3)
/-- The energy of each species. -/
abbrev spe : FVec Ideal S100 .f32 := m ((c.tc : Thread nD τ).loc main_arg4)
/-- The weight of the pair term. -/
abbrev pwt : FVec Ideal S_ .f32 := m ((c.tc : Thread nD τ).loc main_arg5)

/-! ## The row pack: position, mask and species index of an atom along the lanes -/

/-- The five lanes of the row pack that hold something. -/
def rowCat (x : FVec Ideal S8x2048x3 .f32) (k : IVec S8x2048 1) (n : IVec S8x2048 32) : FVec Ideal S8x2048x5 .f32 :=
  concatenate S8x2048x5 2 [⟨S8x2048x3, x⟩,
    ⟨S8x2048x1, broadcastInDim S8x2048x1 ![0, 1] bcast_S8x2048_S8x2048x1_0_1 (uitofp (F := Ideal) .f32 k)⟩,
    ⟨S8x2048x1, broadcastInDim S8x2048x1 ![0, 1] bcast_S8x2048_S8x2048x1_0_1 (sitofp (F := Ideal) .f32 n)⟩]
    concatenates_S8x2048x3_S8x2048x1_S8x2048x1_S8x2048x5_d2

set_option maxHeartbeats 4000000 in
/-- The row pack is the five lanes padded to 128. -/
theorem row_eq : (V m c main_v5 : FVec Ideal S8x2048x128 .f32)
    = pad S8x2048x128 ![0, 0, 0] ![0, 0, 123] ![0, 0, 0] (rowCat (pos m c) (msk m c) (ids m c))
        (sitofp (F := Ideal) .f32 (constantI S_ 32 0#32)) pads_S8x2048x5_S8x2048x128_000_000_01230 h_S_ := by
  rfl

/-- The row pack at an index. -/
theorem row_apply (b : Fin 8) (n : Fin 2048) (l : Fin 128) :
    (V m c main_v5 : FVec Ideal S8x2048x128 .f32) (ix3 b n l)
      = if _ : l.val < 5 then
          if h : l.val < 3 then pos m c (ix3 b n ⟨l.val, h⟩)
          else if _ : l.val - 3 < 1 then (FloatOps.uitofp (F := Ideal) .f32 (msk m c (ix2 b n)) : EReal)
          else (FloatOps.sitofp (F := Ideal) .f32 (ids m c (ix2 b n)) : EReal)
        else (FloatOps.sitofp (F := Ideal) .f32 0#32 : EReal) := by
  rw [row_eq]
  pointwise [rowCat]

/-- Lanes 0, 1 and 2 hold the position. -/
theorem row_pos (b : Fin 8) (n : Fin 2048) (l : Fin 3) :
    (V m c main_v5 : FVec Ideal S8x2048x128 .f32) (ix3 b n (l.castLE (by decide))) = pos m c (ix3 b n l) := by
  rw [row_apply, dif_pos (show (l.castLE (by decide) : Fin 128).val < 5 from by have := l.isLt; simp; omega), dif_pos (show (l.castLE (by decide) : Fin 128).val < 3 from l.isLt)]
  rfl

/-- Lane 3 holds the mask. -/
theorem row_mask (b : Fin 8) (n : Fin 2048) :
    (V m c main_v5 : FVec Ideal S8x2048x128 .f32) (ix3 b n 3) = (FloatOps.uitofp (F := Ideal) .f32 (msk m c (ix2 b n)) : EReal) := by
  rw [row_apply, dif_pos (by decide), dif_neg (by decide), dif_pos (by decide)]

/-- Lane 4 holds the species index, as a number. -/
theorem row_id (b : Fin 8) (n : Fin 2048) :
    (V m c main_v5 : FVec Ideal S8x2048x128 .f32) (ix3 b n 4) = (FloatOps.sitofp (F := Ideal) .f32 (ids m c (ix2 b n)) : EReal) := by
  rw [row_apply, dif_pos (by decide), dif_neg (by decide), dif_neg (by decide)]

/-! ## The column pack, the species row and the weight -/

set_option maxHeartbeats 1000000 in
/-- The column pack at an index: the positions by component, and the mask. -/
theorem col_apply (b : Fin 8) (l : Fin 4) (n : Fin 2048) :
    (V m c main_v8 : FVec Ideal S8x4x2048 .f32) (ix3 b l n)
      = if h : l.val < 3 then pos m c (ix3 b n ⟨l.val, h⟩) else (FloatOps.uitofp (F := Ideal) .f32 (msk m c (ix2 b n)) : EReal) := by
  simp only [V, V0, hostOps0, hostOps0_1, hostOps0_2, List.flatten_cons, List.flatten_nil, List.cons_append, List.nil_append,
    List.append_nil, StableHlo.TRef.binary, StableHlo.TRef.nullary, StableHlo.TRef.ternary, StableHlo.TRef.unary,
    StableHlo.TRef.toBuf, StableHlo.TRef.ofBuf, cast_eq]
  after_results_simp
  after_results_loop
  clean_types
  pointwise

/-- The column pack's first three rows hold the positions. -/
theorem col_pos (b : Fin 8) (l : Fin 3) (n : Fin 2048) :
    (V m c main_v8 : FVec Ideal S8x4x2048 .f32) (ix3 b (l.castLE (by decide)) n) = pos m c (ix3 b n l) := by
  rw [col_apply, dif_pos (show (l.castLE (by decide) : Fin 4).val < 3 from l.isLt)]
  rfl

/-- The column pack's last row holds the mask. -/
theorem col_mask (b : Fin 8) (n : Fin 2048) :
    (V m c main_v8 : FVec Ideal S8x4x2048 .f32) (ix3 b 3 n) = (FloatOps.uitofp (F := Ideal) .f32 (msk m c (ix2 b n)) : EReal) := by
  rw [col_apply, dif_neg (by decide)]

set_option maxHeartbeats 4000000 in
/-- The species row is the table scattered into a row of zeros at start words that are all zero. -/
theorem species_eq : (V m c main_v14 : FVec Ideal S1x1x128 .f32)
    = Host.scatter scatter_S1x1x128_S3_S100_0_01_012_0 (fun _ b => b)
        (broadcastInDim S1x1x128 ![] bcast_S_S1x1x128 (constant (F := Ideal) S_ .f32 0x00000000#32))
        (concatenate S3 0 [⟨S1, broadcastInDim S1 ![] bcast_S_S1 (constantI S_ 32 0#32)⟩,
          ⟨S1, broadcastInDim S1 ![] bcast_S_S1 (constantI S_ 32 0#32)⟩,
          ⟨S1, broadcastInDim S1 ![] bcast_S_S1 (constantI S_ 32 0#32)⟩] concatenates_S1_S1_S1_S3_d0)
        (spe m c) := by
  rfl

/-- The species row at a lane: the table's entry, and zero past the table. -/
theorem species_apply (l : Fin 128) :
    (V m c main_v14 : FVec Ideal S1x1x128 .f32) (ix3 0 0 l) = if h : l.val < 100 then spe m c (ix1 ⟨l.val, h⟩) else (0 : EReal) := by
  rw [species_eq, scatter_row]
  · split
    · rfl
    · pointwise
  · intro k
    obtain ⟨k0, rfl⟩ : ∃ k0 : Fin 3, k = ix1 k0 := ⟨k 0, eq_ix1 k⟩
    pointwise
    split <;> simp

set_option maxHeartbeats 1000000 in
/-- The weight's row holds the weight. -/
theorem weight_apply (l : Fin 128) :
    (V m c main_v15 : FVec Ideal S1x1x128 .f32) (ix3 0 0 l) = pwt m c ix0 := by
  simp only [V, V0, hostOps0, hostOps0_1, hostOps0_2, List.flatten_cons, List.flatten_nil, List.cons_append, List.nil_append,
    List.append_nil, StableHlo.TRef.binary, StableHlo.TRef.nullary, StableHlo.TRef.ternary, StableHlo.TRef.unary,
    StableHlo.TRef.toBuf, StableHlo.TRef.ofBuf, cast_eq]
  after_results_simp
  after_results_loop
  clean_types
  pointwise

end Cert.Proof.Simple
-- ==== Proof.Simple.Points.lean ====
/- What one grid point adds to its molecule's block of the output. -/
module

public import proofs.«01_k».proof.Proof.Simple.Operands

@[expose] public section

set_option maxRecDepth 16384

noncomputable section

namespace Cert.Proof.Simple

open Idealize.ShloMosaic Cert.SimpleIdeal Cert.SimpleIdeal.Gen

variable (m : (ℓ : Loc nD τ sig) → Buf (Elt Ideal) ℓ) (c : Dev nD)

/-! ## Where a grid point's blocks lie -/

/-- The molecule of a grid point. -/
def mol (t : Fin cfg0.N) : Fin 8 := ⟨t.val / 8, by have h : t.val < 64 := t.isLt; omega⟩
/-- Row `r` of a grid point's tile, as an atom. -/
def atomOf (t : Fin cfg0.N) (r : Fin 256) : Fin 2048 := ⟨256 * (t.val % 8) + r.val, by have := r.isLt; omega⟩

theorem idx0 : ∀ t, win0_0.index t = ![t.val / 8, t.val % 8, 0] := by decide +kernel
theorem idx1 : ∀ t, win0_1.index t = ![t.val / 8, 0, 0] := by decide +kernel
theorem idx2 : ∀ t, win0_2.index t = ![t.val / 8, t.val % 8, 0] := by decide +kernel
theorem idx3 : ∀ t, win0_3.index t = ![0, 0, 0] := by decide +kernel
theorem idx4 : ∀ t, win0_4.index t = ![0, 0, 0] := by decide +kernel
theorem idx5 : ∀ t, win0_5.index t = ![t.val / 8, 0, 0] := by decide +kernel

/-- A tile of the row pack. -/
theorem iblk0 (t : Fin cfg0.N) (r : Fin 256) (l : Fin 128) :
    (iblk m c 0 t : FVec Ideal S1x256x128 .f32) (ix3 0 r l) = (V m c main_v5 : FVec Ideal S8x2048x128 .f32) (ix3 (mol t) (atomOf t r) l) := by
  blk_ext [iblk, idx0 t, mol, atomOf]

/-- A molecule of the column pack. -/
theorem iblk1 (t : Fin cfg0.N) (l : Fin 4) (k : Fin 2048) :
    (iblk m c 1 t : FVec Ideal S1x4x2048 .f32) (ix3 0 l k) = (V m c main_v8 : FVec Ideal S8x4x2048 .f32) (ix3 (mol t) l k) := by
  blk_ext [iblk, idx1 t, mol]

/-- A tile of the adjacency. -/
theorem iblk2 (t : Fin cfg0.N) (r : Fin 256) (k : Fin 2048) :
    (iblk m c 2 t : IVec S1x256x2048 32) (ix3 0 r k) = adj m c (ix3 (mol t) (atomOf t r) k) := by
  rw [adj, ← V_main_arg2 m c]
  blk_ext [iblk, idx2 t, mol, atomOf]

/-- The species row. -/
theorem iblk3 (t : Fin cfg0.N) (l : Fin 128) :
    (iblk m c 3 t : FVec Ideal S1x1x128 .f32) (ix3 0 0 l) = (V m c main_v14 : FVec Ideal S1x1x128 .f32) (ix3 0 0 l) := by
  blk_ext [iblk, idx3 t]

/-- The weight's row. -/
theorem iblk4 (t : Fin cfg0.N) (l : Fin 128) :
    (iblk m c 4 t : FVec Ideal S1x1x128 .f32) (ix3 0 0 l) = (V m c main_v15 : FVec Ideal S1x1x128 .f32) (ix3 0 0 l) := by
  blk_ext [iblk, idx4 t]

/-! ## What one atom gives -/

/-- A mask bit as a number. -/
abbrev mk (b : Fin 8) (n : Fin 2048) : EReal := FloatOps.uitofp (F := Ideal) .f32 (msk m c (ix2 b n))

/-- The squared distance of two atoms, as the kernel writes it: the sum of the three squared differences. -/
def d2 (b : Fin 8) (n k : Fin 2048) : EReal :=
  (pos m c (ix3 b n 0) - pos m c (ix3 b k 0)) * (pos m c (ix3 b n 0) - pos m c (ix3 b k 0))
    + (pos m c (ix3 b n 1) - pos m c (ix3 b k 1)) * (pos m c (ix3 b n 1) - pos m c (ix3 b k 1))
    + (pos m c (ix3 b n 2) - pos m c (ix3 b k 2)) * (pos m c (ix3 b n 2) - pos m c (ix3 b k 2))

/-- An atom's species energy, read by a comparison with every lane. -/
def atomTerm (b : Fin 8) (n : Fin 2048) : EReal :=
  ∑ l : Fin 128, FloatOps.sitofp (F := Ideal) .f32 (BitVec.setWidth 32 (BitVec.ofBool
      (decide (FloatOps.sitofp (F := Ideal) .f32 (ids m c (ix2 b n)) = FloatOps.sitofp (F := Ideal) .f32 (BitVec.ofNat 32 l.val)))))
    * (if h : l.val < 100 then spe m c (ix1 ⟨l.val, h⟩) else (0 : EReal)) * mk m c b n

/-- An atom's pair sum. -/
def pairTerm (b : Fin 8) (n : Fin 2048) : EReal :=
  ∑ k : Fin 2048, FloatOps.sitofp (F := Ideal) .f32 (adj m c (ix3 b n k)) * mk m c b k * Ideal.sqrt (d2 m c b n k) * mk m c b n

/-- What a grid point adds: its tile's species energies, and the weight times its tile's pair sums. -/
def tile (t : Fin cfg0.N) : EReal :=
  ∑ r, atomTerm m c (mol t) (atomOf t r) + pwt m c ix0 * ∑ r, pairTerm m c (mol t) (atomOf t r)

/-- The point's arithmetic on blocks that hold the operands' tiles is `tile`. -/
theorem tile_blocks (t : Fin cfg0.N) (X0 : FVec Ideal S1x256x128 .f32) (X1 : FVec Ideal S1x4x2048 .f32) (X2 : IVec S1x256x2048 32)
    (X3 X4 : FVec Ideal S1x1x128 .f32)
    (h0 : ∀ (r : Fin 256) (l : Fin 3), X0 (ix3 0 r (l.castLE (by decide))) = pos m c (ix3 (mol t) (atomOf t r) l))
    (h03 : ∀ r, X0 (ix3 0 r 3) = mk m c (mol t) (atomOf t r))
    (h04 : ∀ r, X0 (ix3 0 r 4) = FloatOps.sitofp (F := Ideal) .f32 (ids m c (ix2 (mol t) (atomOf t r))))
    (h1 : ∀ (l : Fin 3) k, X1 (ix3 0 (l.castLE (by decide)) k) = pos m c (ix3 (mol t) k l))
    (h13 : ∀ k, X1 (ix3 0 3 k) = mk m c (mol t) k)
    (h2 : ∀ r k, X2 (ix3 0 r k) = adj m c (ix3 (mol t) (atomOf t r) k))
    (h3 : ∀ l, X3 (ix3 0 0 l) = if h : l.val < 100 then spe m c (ix1 ⟨l.val, h⟩) else (0 : EReal))
    (h4 : X4 (ix3 0 0 0) = pwt m c ix0) :
    (∑ x : Fin 256, ∑ x_1 : Fin 128, FloatOps.sitofp (F := Ideal) .f32 (BitVec.setWidth 32 (BitVec.ofBool
          (decide (X0 (ix3 0 x 4) = FloatOps.sitofp (F := Ideal) .f32 (BitVec.ofNat 32 x_1.val))))) * X3 (ix3 0 0 x_1) * X0 (ix3 0 x 3))
      + X4 (ix3 0 0 0) * ∑ x : Fin 256, ∑ x_1 : Fin 2048, FloatOps.sitofp (F := Ideal) .f32 (X2 (ix3 0 x x_1)) * X1 (ix3 0 3 x_1)
          * Ideal.sqrt ((X0 (ix3 0 x 0) - X1 (ix3 0 0 x_1)) * (X0 (ix3 0 x 0) - X1 (ix3 0 0 x_1))
              + (X0 (ix3 0 x 1) - X1 (ix3 0 1 x_1)) * (X0 (ix3 0 x 1) - X1 (ix3 0 1 x_1))
              + (X0 (ix3 0 x 2) - X1 (ix3 0 2 x_1)) * (X0 (ix3 0 x 2) - X1 (ix3 0 2 x_1))) * X0 (ix3 0 x 3)
      = tile m c t := by
  have p0 := fun r => h0 r 0
  have p1 := fun r => h0 r 1
  have p2 := fun r => h0 r 2
  have q0 := h1 0
  have q1 := h1 1
  have q2 := h1 2
  change ∀ r, X0 (ix3 0 r 0) = _ at p0
  change ∀ r, X0 (ix3 0 r 1) = _ at p1
  change ∀ r, X0 (ix3 0 r 2) = _ at p2
  change ∀ k, X1 (ix3 0 0 k) = _ at q0
  change ∀ k, X1 (ix3 0 1 k) = _ at q1
  change ∀ k, X1 (ix3 0 2 k) = _ at q2
  unfold tile atomTerm pairTerm d2
  refine congrArg₂ (· + ·) (Finset.sum_congr rfl fun r _ => Finset.sum_congr rfl fun l _ => ?_)
    (congrArg₂ (· * ·) h4 (Finset.sum_congr rfl fun r _ => Finset.sum_congr rfl fun k _ => ?_))
  · rw [h03, h04, h3]
  · rw [h03, h13, h2, p0, p1, p2, q0, q1, q2]

/-! ## The accumulator -/

/-- At a molecule's first tile the output block holds that tile's sum. -/
theorem outs_first (t : Fin cfg0.N) (h : t.val % 8 = 0) (l : Fin 128) :
    (outsAt0 m c t.val t.isLt : FVec Ideal S1x1x128 .f32) (ix3 0 0 l) = tile m c t := by
  rw [outsAt0_A m c t h]
  frame_out
  generalize h0 : iblk m c 0 t = X0
  generalize h1 : iblk m c 1 t = X1
  generalize h2 : iblk m c 2 t = X2
  generalize h3 : iblk m c 3 t = X3
  generalize h4 : iblk m c 4 t = X4
  unfold_payloads
  pointwise
  exact tile_blocks m c t X0 X1 X2 X3 X4
    (fun r l => by rw [← h0]; exact (iblk0 m c t r _).trans (row_pos m c _ _ l))
    (fun r => by rw [← h0]; exact (iblk0 m c t r 3).trans (row_mask m c _ _))
    (fun r => by rw [← h0]; exact (iblk0 m c t r 4).trans (row_id m c _ _))
    (fun l k => by rw [← h1]; exact (iblk1 m c t _ k).trans (col_pos m c _ l k))
    (fun k => by rw [← h1]; exact (iblk1 m c t 3 k).trans (col_mask m c _ k))
    (fun r k => by rw [← h2]; exact iblk2 m c t r k)
    (fun l => by rw [← h3]; exact (iblk3 m c t l).trans (species_apply m c l))
    (by rw [← h4]; exact (iblk4 m c t 0).trans (weight_apply m c 0))

/-- At a later tile the block holds that tile's sum added to what was there. -/
theorem outs_next (t : Fin cfg0.N) (h : ¬ t.val % 8 = 0) (l : Fin 128) :
    (outsAt0 m c t.val t.isLt : FVec Ideal S1x1x128 .f32) (ix3 0 0 l)
      = (outsAt0 m c (t.val - 1) (Nat.lt_of_le_of_lt (Nat.sub_le _ _) t.isLt) : FVec Ideal S1x1x128 .f32) (ix3 0 0 l) + tile m c t := by
  rw [outsAt0_B m c t h]
  frame_out
  generalize h0 : iblk m c 0 t = X0
  generalize h1 : iblk m c 1 t = X1
  generalize h2 : iblk m c 2 t = X2
  generalize h3 : iblk m c 3 t = X3
  generalize h4 : iblk m c 4 t = X4
  unfold_payloads
  pointwise
  exact congrArg (_ + ·) (tile_blocks m c t X0 X1 X2 X3 X4
    (fun r l => by rw [← h0]; exact (iblk0 m c t r _).trans (row_pos m c _ _ l))
    (fun r => by rw [← h0]; exact (iblk0 m c t r 3).trans (row_mask m c _ _))
    (fun r => by rw [← h0]; exact (iblk0 m c t r 4).trans (row_id m c _ _))
    (fun l k => by rw [← h1]; exact (iblk1 m c t _ k).trans (col_pos m c _ l k))
    (fun k => by rw [← h1]; exact (iblk1 m c t 3 k).trans (col_mask m c _ k))
    (fun r k => by rw [← h2]; exact iblk2 m c t r k)
    (fun l => by rw [← h3]; exact (iblk3 m c t l).trans (species_apply m c l))
    (by rw [← h4]; exact (iblk4 m c t 0).trans (weight_apply m c 0)))

end Cert.Proof.Simple
-- ==== Proof.Simple.Value.lean ====
/- What the kernel's program leaves: the output array after the region, and the result the host cuts out of it. -/
module

public import proofs.«01_k».proof.Proof.Simple.Points
public import Idealize.ShloMosaic.Lib.Claim

@[expose] public section

set_option maxRecDepth 16384

noncomputable section

namespace Cert.Proof.Simple

open Idealize.ShloMosaic Cert.SimpleIdeal Cert.SimpleIdeal.Gen

variable (m : (ℓ : Loc nD τ sig) → Buf (Elt Ideal) ℓ) (c : Dev nD)

/-- The grid point of a molecule's tile. -/
def pointOf (b : Fin 8) (i : Fin 8) : Fin cfg0.N := ⟨8 * b.val + i.val, by have := b.isLt; have := i.isLt; show _ < 64; omega⟩

/-- A molecule's energy as the kernel sums it: tile by tile. -/
def energy (b : Fin 8) : EReal := ∑ i : Fin 8, tile m c (pointOf b i)

/-- At a molecule's last tile the output block holds the sum of its tiles. -/
theorem outs_last (t : Fin cfg0.N) (h : t.val % 8 = 7) (l : Fin 128) :
    (outsAt0 m c t.val t.isLt : FVec Ideal S1x1x128 .f32) (ix3 0 0 l) = energy m c (mol t) := by
  have e := Pipeline.eq_sum_fin_of_reset_step_apply_of_flush (N := cfg0.N) (f := fun n hn (i : Fin 128) => ((outsAt0 m c n hn : FVec Ideal S1x1x128 .f32) (ix3 0 0 i) : EReal))
    8 (fun _ => 0) (fun t _ => tile m c t)
    (fun t h0 i => by rw [zero_add]; exact outs_first m c t h0 i) (fun t h0 i => outs_next m c t h0 i) t h l
  rw [zero_add] at e
  exact e

/-- The output array: every lane of a molecule's block holds its energy. -/
def outArr : FVec Ideal S8x1x128 .f32 := fun i => energy m c (i 0)

theorem arr_out : (dats m 0 c).arrAt 5 cfg0.N = outArr m c := by
  refine (dats m 0 c).arrAt_eq_of_covers 5 _ (by decide +kernel) fun t hf y => ?_
  have h7 : t.val % 8 = 7 := (flush0_5 t).mp hf
  rw [after0_5]
  obtain ⟨y0, y1, l, rfl⟩ : ∃ (y0 : Fin 1) (y1 : Fin 1) (l : Fin 128), y = ix3 y0 y1 l := ⟨y 0, y 1, y 2, eq_ix3 y⟩
  obtain rfl := Subsingleton.elim y0 0
  obtain rfl := Subsingleton.elim y1 0
  refine (outs_last m c t h7 l).trans (congrArg (energy m c) (Fin.ext ?_))
  blk_simp [idx5 t, mol]
  rfl

/-! ## The result -/

/-- The kernel's result: one energy per molecule. -/
def result : FVec Ideal S8 .f32 := fun i => energy m c (i 0)

/-- The lines after the region cut lane 0 of every molecule's block out of the array. -/
theorem tail_result : Pipeline.afterTail₀ cfgs (dats m) 0 (V0 m) [hostOps1] c main_v18 = result m c := by
  unfold Pipeline.afterTail₀
  rw [show Pipeline.withArrays (cfgs 0).spec c (V0 m c) (fun w => (dats m 0 c).arrAt w (cfgs 0).N)
      = Pipeline.withArrays spec0 c (V0 m c) (fun w => (dats m 0 c).arrAt w cfg0.N) from rfl]
  generalize hW : Pipeline.withArrays spec0 c (V0 m c) (fun w => (dats m 0 c).arrAt w cfg0.N) = W
  have e : W (Proc.devRef .tc main_v16) = outArr m c := by
    rw [← hW]
    exact (Pipeline.withArrays_arr spec0 launch0.win.arr_inj c (V0 m c) (fun w => (dats m 0 c).arrAt w cfg0.N) 5).trans (arr_out m c)
  simp only [hostOps1, List.flatten_cons, List.flatten_nil, List.append_nil]
  after_results_simp
  rw [e]
  funext i
  obtain ⟨b, rfl⟩ : ∃ b : Fin 8, i = ix1 b := ⟨i 0, eq_ix1 i⟩
  clean_types
  pointwise [outArr, result]

/-- The run: the result is `result`, and the arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).2 main_v18 (Pipeline.mem_restRefs_of main_v18 (by decide) (by decide))).trans (tail_result m c), h.2 c⟩)
    (θ_run_and (run_main m ρ) (unchanged m ρ))

end Cert.Proof.Simple
-- ==== Proof.Simple.Equation.lean ====
/- The kernel's sum over tiles is the sum over atoms and pairs, for arguments that are numbers. -/
module

public import proofs.«01_k».proof.Proof.Simple.Value
public import proofs.«01_k».proof.Proof.Maths

@[expose] public section

set_option maxRecDepth 16384

noncomputable section

namespace Cert.Proof.Simple

open Idealize.ShloMosaic Cert.SimpleIdeal Cert.SimpleIdeal.Gen

variable (m : (ℓ : Loc nD τ sig) → Buf (Elt Ideal) ℓ) (c : Dev nD)

theorem mol_pointOf (b i : Fin 8) : mol (pointOf b i) = b := Fin.ext (by have := i.isLt; simp only [mol, pointOf]; omega)
theorem atomOf_pointOf (b i : Fin 8) (r : Fin 256) (h : 256 * i.val + r.val < 2048) : atomOf (pointOf b i) r = ⟨256 * i.val + r.val, h⟩ :=
  Fin.ext (by have := i.isLt; simp only [atomOf, pointOf]; omega)

/-- A species index's comparison with a lane, as a number. -/
theorem hot_eq (k : Fin 100) (l : Fin 128) :
    FloatOps.sitofp (F := Ideal) .f32 (BitVec.setWidth 32 (BitVec.ofBool
      (decide (FloatOps.sitofp (F := Ideal) .f32 (BitVec.ofNat 32 k.val) = FloatOps.sitofp (F := Ideal) .f32 (BitVec.ofNat 32 l.val)))))
      = if k.val = l.val then (1 : EReal) else 0 := by
  have e : ∀ n : Nat, n < 128 → FloatOps.sitofp (F := Ideal) .f32 (BitVec.ofNat 32 n) = (((n : ℝ)) : EReal) := by
    intro n hn
    have : (BitVec.ofNat 32 n).toInt = (n : Int) := by
      rw [BitVec.toInt_eq_toNat_of_lt] <;> rw [BitVec.toNat_ofNat] <;> omega
    show (((BitVec.ofNat 32 n).toInt : ℝ) : EReal) = _
    rw [this, Int.cast_natCast]
  rw [e _ (by have := k.isLt; omega), e _ l.isLt]
  by_cases h : k.val = l.val
  · rw [if_pos h, h, decide_eq_true rfl]
    show (((BitVec.setWidth 32 (BitVec.ofBool true)).toInt : ℝ) : EReal) = 1
    rw [show (BitVec.setWidth 32 (BitVec.ofBool true)).toInt = 1 from by decide]
    norm_num
  · rw [if_neg h, decide_eq_false (fun q => h (by exact_mod_cast (EReal.coe_eq_coe_iff.mp q)))]
    show (((BitVec.setWidth 32 (BitVec.ofBool false)).toInt : ℝ) : EReal) = 0
    rw [show (BitVec.setWidth 32 (BitVec.ofBool false)).toInt = 0 from by decide]
    norm_num

/-- An atom whose species index is `k` gives the energy of species `k`, under its mask. -/
theorem atomTerm_eq (b : Fin 8) (n : Fin 2048) (k : Fin 100) (hk : ids m c (ix2 b n) = BitVec.ofNat 32 k.val) :
    atomTerm m c b n = spe m c (ix1 k) * mk m c b n := by
  unfold atomTerm
  have hkl := k.isLt
  rw [Finset.sum_eq_single (⟨k.val, by omega⟩ : Fin 128)]
  · rw [hk, hot_eq, if_pos rfl, one_mul, dif_pos hkl]
  · intro l _ hl
    rw [hk, hot_eq, if_neg (fun q => hl (Fin.ext q.symm)), zero_mul, zero_mul]
  · intro h; exact absurd (Finset.mem_univ _) h

/-- An atom's pair sum, in the reals. -/
def pairReal (P : Fin 8 → Fin 2048 → Fin 3 → ℝ) (b : Fin 8) (n : Fin 2048) : ℝ :=
  ∑ k : Fin 2048, ((adj m c (ix3 b n k)).toInt : ℝ) * ((msk m c (ix2 b n)).toNat : ℝ) * ((msk m c (ix2 b k)).toNat : ℝ)
    * Real.sqrt (sqDist (P b n) (P b k))

/-- The three squared differences are the squared distance. -/
theorem d2_eq (P : Fin 8 → Fin 2048 → Fin 3 → ℝ) (hP : ∀ b n x, pos m c (ix3 b n x) = ((P b n x : ℝ) : EReal)) (b : Fin 8) (n k : Fin 2048) :
    d2 m c b n k = ((sqDist (P b n) (P b k) : ℝ) : EReal) := by
  unfold d2 sqDist
  simp only [hP, Fin.sum_univ_three, EReal.coe_add, EReal.coe_mul, EReal.coe_sub]

/-- An atom's pair sum is the real one. -/
theorem pairTerm_eq (P : Fin 8 → Fin 2048 → Fin 3 → ℝ) (hP : ∀ b n x, pos m c (ix3 b n x) = ((P b n x : ℝ) : EReal)) (b : Fin 8) (n : Fin 2048) :
    pairTerm m c b n = ((pairReal m c P b n : ℝ) : EReal) := by
  unfold pairTerm pairReal
  rw [coe_sum]
  refine Finset.sum_congr rfl fun k _ => ?_
  rw [d2_eq m c P hP, sqrt_coe (sqDist_nonneg _ _)]
  show (((adj m c (ix3 b n k)).toInt : ℝ) : EReal) * (((msk m c (ix2 b k)).toNat : ℝ) : EReal) * _ * (((msk m c (ix2 b n)).toNat : ℝ) : EReal) = _
  rw [← EReal.coe_mul, ← EReal.coe_mul, ← EReal.coe_mul]
  congr 1
  ring

/-- THE EQUATION: the kernel's energy of a molecule is the sum of its atoms' species energies and the weight times the sum
    over its pairs of adjacency, masks and distance. -/
theorem energy_eq (K : Fin 8 → Fin 2048 → Fin 100) (hK : ∀ b n, ids m c (ix2 b n) = BitVec.ofNat 32 (K b n).val)
    (P : Fin 8 → Fin 2048 → Fin 3 → ℝ) (hP : ∀ b n x, pos m c (ix3 b n x) = ((P b n x : ℝ) : EReal))
    (w : ℝ) (hw : pwt m c ix0 = (w : EReal)) (b : Fin 8) :
    energy m c b
      = (∑ n : Fin 2048, spe m c (ix1 (K b n)) * FloatOps.uitofp (F := Ideal) .f32 (msk m c (ix2 b n)))
        + pwt m c ix0 * ∑ n : Fin 2048, ∑ k : Fin 2048, FloatOps.sitofp (F := Ideal) .f32 (adj m c (ix3 b n k))
          * FloatOps.uitofp (F := Ideal) .f32 (msk m c (ix2 b n)) * FloatOps.uitofp (F := Ideal) .f32 (msk m c (ix2 b k))
          * ((Real.sqrt (sqDist (P b n) (P b k)) : ℝ) : EReal) := by
  have hpair : ∀ n, (∑ k : Fin 2048, FloatOps.sitofp (F := Ideal) .f32 (adj m c (ix3 b n k))
          * FloatOps.uitofp (F := Ideal) .f32 (msk m c (ix2 b n)) * FloatOps.uitofp (F := Ideal) .f32 (msk m c (ix2 b k))
          * ((Real.sqrt (sqDist (P b n) (P b k)) : ℝ) : EReal)) = ((pairReal m c P b n : ℝ) : EReal) := by
    intro n
    unfold pairReal
    rw [coe_sum]
    refine Finset.sum_congr rfl fun k _ => ?_
    rw [EReal.coe_mul, EReal.coe_mul, EReal.coe_mul]
    rfl
  have ht : ∀ i : Fin 8, tile m c (pointOf b i)
      = (∑ r : Fin 256, spe m c (ix1 (K b ⟨256 * i.val + r.val, by have := i.isLt; have := r.isLt; omega⟩))
            * FloatOps.uitofp (F := Ideal) .f32 (msk m c (ix2 b ⟨256 * i.val + r.val, by have := i.isLt; have := r.isLt; omega⟩)))
        + ∑ r : Fin 256, (w : EReal) * ((pairReal m c P b ⟨256 * i.val + r.val, by have := i.isLt; have := r.isLt; omega⟩ : ℝ) : EReal) := by
    intro i
    unfold tile
    rw [hw, ← coe_mul_sum]
    refine congrArg₂ (· + ·) (Finset.sum_congr rfl fun r _ => ?_) (congrArg₂ (· * ·) rfl (Finset.sum_congr rfl fun r _ => ?_))
    · rw [mol_pointOf, atomOf_pointOf b i r (by have := i.isLt; have := r.isLt; omega), atomTerm_eq m c _ _ _ (hK _ _)]
    · rw [mol_pointOf, atomOf_pointOf b i r (by have := i.isLt; have := r.isLt; omega), pairTerm_eq m c P hP]
  unfold energy
  rw [Finset.sum_congr rfl fun i _ => ht i, Finset.sum_add_distrib]
  refine congrArg₂ (· + ·) (sum_tiles 8 256 fun n : Fin 2048 => spe m c (ix1 (K b n)) * FloatOps.uitofp (F := Ideal) .f32 (msk m c (ix2 b n))).symm ?_
  rw [Finset.sum_congr rfl fun n _ => hpair n, hw, coe_mul_sum]
  exact (sum_tiles 8 256 fun n : Fin 2048 => (w : EReal) * ((pairReal m c P b n : ℝ) : EReal)).symm

end Cert.Proof.Simple
-- ==== Proof.Ring.Equation.lean ====
/- The optimised kernel's energy is the softened reference's, for arguments that are numbers. -/
module

public import proofs.«01_k».proof.Proof.Ring.Value
public import proofs.«01_k».proof.Proof.Simple.Equation
public import proofs.«01_k».proof.Proof.Maths

@[expose] public section

set_option maxRecDepth 16384

noncomputable section

namespace Cert.Proof.Ring

open Idealize.ShloMosaic Cert.KernelIdeal Cert.KernelIdeal.Gen

/-! ## The three float words -/

/-- The float nearest 0.0002. -/
def eps : ℝ := 13743895 / 2 ^ 36
/-- The float nearest 10⁻¹². -/
def del : ℝ := 9223372 / 2 ^ 63

theorem eps_f32 : Ideal.ofBits .f32 0x3951B717#32 = ((eps : ℝ) : EReal) := by
  simp [Ideal.ofBits, Ideal.ieee, eps, -EReal.coe_mul]; norm_num
theorem del_f32 : Ideal.ofBits .f32 0x2B8CBCCC#32 = ((del : ℝ) : EReal) := by
  simp [Ideal.ofBits, Ideal.ieee, del, -EReal.coe_mul]; norm_num
theorem neg_two_f32 : Ideal.ofBits .f32 0xC0000000#32 = ((-2 : ℝ) : EReal) := by
  simp [Ideal.ofBits, Ideal.ieee, -EReal.coe_mul]; norm_num
theorem del_pos : 0 < del := by unfold del; norm_num
theorem del_le_eps : del ≤ eps := by unfold del eps; norm_num

/-! ## Atoms -/

variable (m : (ℓ : Loc nD τ sig) → Buf (Elt Ideal) ℓ) (c : Dev nD)

/-- A one-bit word is 0 or 1. -/
theorem bit_cases (k : BitVec 1) : k = 0#1 ∨ k = 1#1 := by revert k; decide

/-- The index −1 compares equal with no lane. -/
theorem hot_none (l : Fin 128) :
    FloatOps.sitofp (F := Ideal) .f32 (BitVec.setWidth 32 (BitVec.ofBool
      (decide (FloatOps.sitofp (F := Ideal) .f32 4294967295#32 = FloatOps.sitofp (F := Ideal) .f32 (BitVec.ofNat 32 l.val))))) = (0 : EReal) := by
  have h : ¬ FloatOps.sitofp (F := Ideal) .f32 4294967295#32 = FloatOps.sitofp (F := Ideal) .f32 (BitVec.ofNat 32 l.val) := by
    intro q
    have q' : (((4294967295#32 : BitVec 32).toInt : ℝ) : EReal) = (((BitVec.ofNat 32 l.val).toInt : ℝ) : EReal) := q
    have q2 : (4294967295#32 : BitVec 32).toInt = (BitVec.ofNat 32 l.val).toInt := by exact_mod_cast EReal.coe_eq_coe_iff.mp q'
    exact (show ∀ l : Fin 128, (4294967295#32 : BitVec 32).toInt ≠ (BitVec.ofNat 32 l.val).toInt by decide +kernel) l q2
  rw [decide_eq_false h]
  show (((BitVec.setWidth 32 (BitVec.ofBool false)).toInt : ℝ) : EReal) = 0
  rw [show (BitVec.setWidth 32 (BitVec.ofBool false)).toInt = 0 from by decide]
  norm_num

/-- The mask of a bit that is set, and of one that is not. -/
theorem mk_one (b : Fin 8) (n : Fin 2048) (h : msk m c (ix2 b n) = 1#1) : mk m c b n = 1 := by
  unfold mk
  rw [h]
  show (((1#1 : BitVec 1).toNat : ℝ) : EReal) = 1
  norm_num
theorem mk_zero (b : Fin 8) (n : Fin 2048) (h : msk m c (ix2 b n) = 0#1) : mk m c b n = 0 := by
  unfold mk
  rw [h]
  show (((0#1 : BitVec 1).toNat : ℝ) : EReal) = 0
  norm_num

/-- An atom whose species index is `k` gives the energy of species `k`, under its mask. -/
theorem hotE_eq (b : Fin 8) (n : Fin 2048) (k : Fin 100) (hk : ids m c (ix2 b n) = BitVec.ofNat 32 k.val) :
    hotE m c b n = spe m c (ix1 k) * mk m c b n := by
  have hkl := k.isLt
  have hid : rowV m c b n 6 = FloatOps.sitofp (F := Ideal) .f32 (mid1 m c b n) := row_id m c b n
  unfold hotE
  rw [hid]
  rcases bit_cases (msk m c (ix2 b n)) with h | h
  · rw [mk_zero m c b n h, mul_zero]
    refine Finset.sum_eq_zero fun l _ => ?_
    have e : mid1 m c b n = 4294967295#32 := by unfold mid1; rw [h]; rfl
    rw [e, hot_none, zero_mul]
  · rw [mk_one m c b n h, mul_one]
    have e : mid1 m c b n = BitVec.ofNat 32 k.val := by unfold mid1; rw [h, ← hk]; rfl
    rw [e, Finset.sum_eq_single (⟨k.val, by omega⟩ : Fin 128)]
    · rw [Simple.hot_eq, if_pos rfl, one_mul]
      exact (species_apply m c _).trans (dif_pos hkl)
    · intro l _ hl
      rw [Simple.hot_eq, if_neg (fun q => hl (Fin.ext q.symm)), zero_mul]
    · intro h; exact absurd (Finset.mem_univ _) h

/-! ## Pairs -/

/-- The square under the softened root. -/
def sqR (P : Fin 8 → Fin 2048 → Fin 3 → ℝ) (b : Fin 8) (n j : Fin 2048) : ℝ :=
  if msk m c (ix2 b n) = 1#1 then sqDist (P b n) (P b j) + eps else del

theorem sqR_pos (P : Fin 8 → Fin 2048 → Fin 3 → ℝ) (b : Fin 8) (n j : Fin 2048) : 0 < sqR m c P b n j := by
  unfold sqR
  split
  · have := sqDist_nonneg (P b n) (P b j); have := del_pos; have := del_le_eps; linarith
  · exact del_pos

/-- The product of an atom's row and an atom's column is the softened squared distance where the mask keeps the row's atom, and zero where it does not. -/
theorem dotE_eq (P : Fin 8 → Fin 2048 → Fin 3 → ℝ) (hP : ∀ b n x, pos m c (ix3 b n x) = ((P b n x : ℝ) : EReal)) (b : Fin 8) (n j : Fin 2048) :
    dotE m c b n j = ((((msk m c (ix2 b n)).toNat : ℝ) * (sqDist (P b n) (P b j) + eps) : ℝ) : EReal) := by
  have r0 : rowV m c b n 0 = _ := row_pos m c b n 0
  have r1 : rowV m c b n 1 = _ := row_pos m c b n 1
  have r2 : rowV m c b n 2 = _ := row_pos m c b n 2
  have r3 : rowV m c b n 3 = _ := row_sq m c b n
  have r4 : rowV m c b n 4 = _ := row_mask m c b n
  have c0 : colV m c b 0 j = _ := col_pos m c b j 0
  have c1 : colV m c b 1 j = _ := col_pos m c b j 1
  have c2 : colV m c b 2 j = _ := col_pos m c b j 2
  have c3 : colV m c b 3 j = _ := col_one m c b j
  have c4 : colV m c b 4 j = _ := col_sq m c b j
  have hm : mk m c b n = ((((msk m c (ix2 b n)).toNat : ℝ)) : EReal) := rfl
  unfold dotE
  rw [Fin.sum_univ_five]
  change rowV m c b n 0 * colV m c b 0 j + rowV m c b n 1 * colV m c b 1 j + rowV m c b n 2 * colV m c b 2 j
    + rowV m c b n 3 * colV m c b 3 j + rowV m c b n 4 * colV m c b 4 j = _
  rw [r0, r1, r2, r3, r4, c0, c1, c2, c3, c4, hm, neg_two_f32, eps_f32]
  generalize ((msk m c (ix2 b n)).toNat : ℝ) = μ
  simp only [hP, mul_one, Fin.sum_univ_three, sqDist]
  simp only [← EReal.coe_mul, ← EReal.coe_add]
  congr 1
  ring

/-- The kernel's distance is the softened root. -/
theorem distE_eq (P : Fin 8 → Fin 2048 → Fin 3 → ℝ) (hP : ∀ b n x, pos m c (ix3 b n x) = ((P b n x : ℝ) : EReal)) (b : Fin 8) (n j : Fin 2048) :
    distE m c b n j = ((Real.sqrt (sqR m c P b n j) : ℝ) : EReal) := by
  have hs := sqDist_nonneg (P b n) (P b j)
  have hd := del_pos
  have he := del_le_eps
  unfold distE
  rw [dotE_eq m c P hP, del_f32, coe_max']
  have e : max (((msk m c (ix2 b n)).toNat : ℝ) * (sqDist (P b n) (P b j) + eps)) del = sqR m c P b n j := by
    unfold sqR
    rcases bit_cases (msk m c (ix2 b n)) with h | h <;> rw [h]
    · rw [if_neg (by decide), show (((0#1 : BitVec 1).toNat : ℝ)) = 0 by norm_num, zero_mul, max_eq_right hd.le]
    · rw [if_pos rfl, show (((1#1 : BitVec 1).toNat : ℝ)) = 1 by norm_num, one_mul, max_eq_left (by linarith)]
  rw [e, mul_rsqrt_coe (sqR_pos m c P b n j)]

/-- The softened reference's distance is the same root. -/
theorem soft_eq (P : Fin 8 → Fin 2048 → Fin 3 → ℝ) (b : Fin 8) (n j : Fin 2048) :
    Ideal.sqrt (Scalar.select (msk m c (ix2 b n)) (((sqDist (P b n) (P b j) : ℝ) : EReal) + Ideal.ofBits .f32 0x3951B717#32) (Ideal.ofBits .f32 0x2B8CBCCC#32))
      = ((Real.sqrt (sqR m c P b n j) : ℝ) : EReal) := by
  rw [← sqrt_coe (sqR_pos m c P b n j).le]
  refine congrArg Ideal.sqrt ?_
  unfold sqR
  rcases bit_cases (msk m c (ix2 b n)) with h | h <;> rw [h, eps_f32, del_f32]
  · rw [if_neg (by decide)]; rfl
  · rw [if_pos rfl, EReal.coe_add]; rfl

/-- THE EQUATION: the kernel's energy of a molecule is the sum of its atoms' species energies and the weight times the sum over
    its pairs of adjacency, mask and softened distance. -/
theorem energy_eq (K : Fin 8 → Fin 2048 → Fin 100) (hK : ∀ b n, ids m c (ix2 b n) = BitVec.ofNat 32 (K b n).val)
    (P : Fin 8 → Fin 2048 → Fin 3 → ℝ) (hP : ∀ b n x, pos m c (ix3 b n x) = ((P b n x : ℝ) : EReal))
    (w : ℝ) (hw : pwt m c ix0 = (w : EReal)) (b : Fin 8) :
    energy m c b
      = (∑ n : Fin 2048, spe m c (ix1 (K b n)) * mk m c b n)
        + pwt m c ix0 * ∑ n : Fin 2048, ∑ k : Fin 2048, FloatOps.sitofp (F := Ideal) .f32 (adj m c (ix3 b n k)) * mk m c b k
          * Ideal.sqrt (Scalar.select (msk m c (ix2 b n))
              (((sqDist (P b n) (P b k) : ℝ) : EReal) + Ideal.ofBits .f32 0x3951B717#32) (Ideal.ofBits .f32 0x2B8CBCCC#32)) := by
  have hl : ∀ j, (∑ n : Fin 2048, pairE m c b n j) * colV m c b 5 j
      = (((∑ n : Fin 2048, ((adj m c (ix3 b n j)).toInt : ℝ) * Real.sqrt (sqR m c P b n j)) * (w * ((msk m c (ix2 b j)).toNat : ℝ)) : ℝ) : EReal) := by
    intro j
    have c5 : colV m c b 5 j = pwt m c ix0 * mk m c b j := col_weight m c b j
    rw [c5, hw, EReal.coe_mul, EReal.coe_mul, coe_sum]
    refine congrArg₂ (· * ·) (Finset.sum_congr rfl fun n _ => ?_) rfl
    unfold pairE
    rw [distE_eq m c P hP, EReal.coe_mul]
    rfl
  have hr : ∀ n, (∑ k : Fin 2048, FloatOps.sitofp (F := Ideal) .f32 (adj m c (ix3 b n k)) * mk m c b k
          * Ideal.sqrt (Scalar.select (msk m c (ix2 b n))
              (((sqDist (P b n) (P b k) : ℝ) : EReal) + Ideal.ofBits .f32 0x3951B717#32) (Ideal.ofBits .f32 0x2B8CBCCC#32)))
      = ((∑ k : Fin 2048, ((adj m c (ix3 b n k)).toInt : ℝ) * ((msk m c (ix2 b k)).toNat : ℝ) * Real.sqrt (sqR m c P b n k) : ℝ) : EReal) := by
    intro n
    rw [coe_sum]
    refine Finset.sum_congr rfl fun k _ => ?_
    rw [soft_eq, EReal.coe_mul, EReal.coe_mul]
    rfl
  unfold energy
  rw [Finset.sum_congr rfl fun n _ => hotE_eq m c b n (K b n) (hK b n), Finset.sum_congr rfl fun j _ => hl j, Finset.sum_congr rfl fun n _ => hr n, hw,
    ← coe_sum, ← coe_sum, ← EReal.coe_mul]
  refine congrArg₂ (· + ·) rfl (congrArg _ ?_)
  rw [Finset.sum_comm, Finset.mul_sum]
  refine Finset.sum_congr rfl fun j _ => ?_
  rw [Finset.sum_mul, Finset.mul_sum]
  exact Finset.sum_congr rfl fun n _ => by ring

end Cert.Proof.Ring
-- ==== Proof.Exact.Take.lean ====
module

public import proofs.«01_k».proof.Proof.Gen.ReferenceIdeal.Run
public import Idealize.ShloMosaic.Lib.Pointwise

@[expose] public section

set_option maxRecDepth 16384

/-! # The reference's take: one table entry per atom -/

namespace Cert.Proof.Exact

open Idealize.ShloMosaic Cert.ReferenceIdeal Cert.ReferenceIdeal.Gen

/-- Where the index array holds the word of `k < 100`, the take gives entry `k` of the table. -/
theorem gather_apply (u : FVec Ideal S100 .f32) (idx : IVec S8x2048x1 32) (b : Fin 8) (n : Fin 2048) (k : Fin 100)
    (hk : idx (ix3 b n 0) = BitVec.ofNat 32 k.val) :
    Host.gather gather_S100_S8x2048x1_S8x2048_n_0_n_n_0_2_1 u idx (ix2 b n) = u (ix1 k) := by
  unfold Host.gather
  refine congrArg u (funext fun a => ?_)
  match a with
  | ⟨0, _⟩ =>
    refine Fin.ext ?_
    show min (idx _).toInt.toNat (100 - 1) = k.val
    have e : ∀ q : S8x2048x1.Idx, q = ix3 b n 0 → min (idx q).toInt.toNat (100 - 1) = k.val := by
      rintro q rfl
      rw [hk]
      have := k.isLt
      revert this
      generalize k.val = v
      intro this
      have : (BitVec.ofNat 32 v).toInt = (v : Int) := by
        rw [BitVec.toInt_eq_toNat_of_lt] <;> rw [BitVec.toNat_ofNat] <;> omega
      omega
    refine e _ (funext fun c => ?_)
    match c with
    | ⟨0, _⟩ => rfl
    | ⟨1, _⟩ => rfl
    | ⟨2, _⟩ => rfl

end Cert.Proof.Exact
-- ==== Proof.Exact.Energies.lean ====
/- The exact reference's lines as functions of arrays, and what they hold at an index. -/
module

public import proofs.«01_k».proof.Proof.Exact.Take
public import proofs.«01_k».proof.Proof.Maths
public import Idealize.ShloMosaic.Lib.IdealHost

@[expose] public section

set_option maxRecDepth 16384

noncomputable section

namespace Cert.Proof.Exact

open Idealize.ShloMosaic Cert.ReferenceIdeal Cert.ReferenceIdeal.Gen

/-- The float word of two. -/
theorem two_f32 : Ideal.ofBits .f32 0x40000000#32 = ((2 : ℝ) : EReal) := by
  simp [Ideal.ofBits, Ideal.ieee, -EReal.coe_mul]; norm_num

/-- A conjunction of bits that are all set is set. -/
theorem fold_set {ι : Type} (s : Finset ι) (f : ι → BitVec 1) (h : ∀ x, f x = 1#1) : Finset.fold IntOp.andi (1#1) f s = 1#1 := by
  classical
  induction s using Finset.induction_on with
  | empty => rfl
  | insert a s ha ih => rw [Finset.fold_insert ha, ih, h]; rfl

/-- An index of the table is not negative, so the wrap of negative indices leaves it. -/
theorem wrap_id (k : Fin 100) : Scalar.select (IntOp.cmpi .slt (BitVec.ofNat 32 k.val) 0#32)
    (IntOp.addi (BitVec.ofNat 32 k.val) 100#32) (BitVec.ofNat 32 k.val) = BitVec.ofNat 32 k.val := by
  revert k; decide +kernel

/-- An index of the table passes the check of its bounds. -/
theorem bounds_id (k : Fin 100) : IntOp.andi (IntOp.cmpi .sge (BitVec.ofNat 32 k.val) 0#32) (IntOp.cmpi .sle (BitVec.ofNat 32 k.val) 99#32) = 1#1 := by
  revert k; decide +kernel

/-! ## The lines -/

/-- The indices, a negative one wrapped to the table's end. -/
def wrapped (n : IVec S8x2048 32) : IVec S8x2048x1 32 :=
  broadcastInDim S8x2048x1 ![0, 1] bcast_S8x2048_S8x2048x1_0_1
    (select (cmpi .slt n (broadcastInDim S8x2048 ![] bcast_S_S8x2048 (constantI S_ 32 0#32)))
      (addi n (broadcastInDim S8x2048 ![] bcast_S_S8x2048 (constantI S_ 32 100#32))) n)

/-- The species energies taken from the table. -/
def taken (u : FVec Ideal S100 .f32) (n : IVec S8x2048 32) : FVec Ideal S8x2048 .f32 :=
  select (Host.reduce IntOp.andi (andi (cmpi .sge (wrapped n) (broadcastInDim S8x2048x1 ![] bcast_S_S8x2048x1 (constantI S_ 32 0#32)))
      (cmpi .sle (wrapped n) (broadcastInDim S8x2048x1 ![0, 1, 2] bcast_S1x1x1_S8x2048x1_0_1_2 (broadcastInDim S1x1x1 ![2] bcast_S1_S1x1x1_2 (constantI S1 32 99#32)))))
      (constantI S_ 1 1#1) reducesTo_S8x2048x1_S8x2048_d2 h_S_)
    (Host.gather gather_S100_S8x2048x1_S8x2048_n_0_n_n_0_2_1 u (wrapped n))
    (broadcastInDim S8x2048 ![] bcast_S_S8x2048 (constant (F := Ideal) S_ .f32 0x7FC00000#32))

/-- The squared lengths. -/
def lens (x : FVec Ideal S8x2048x3 .f32) : FVec Ideal S8x2048 .f32 :=
  Host.reduceAdd (mulf x x) (constant (F := Ideal) S_ .f32 0x00000000#32) reducesTo_S8x2048x3_S8x2048_d2 h_S_

/-- The squared distances, cut at zero. -/
def squares (x : FVec Ideal S8x2048x3 .f32) : FVec Ideal S8x2048x2048 .f32 :=
  maximumf (subf (addf
      (broadcastInDim S8x2048x2048 ![0, 1, 2] bcast_S8x2048x1_S8x2048x2048_0_1_2 (broadcastInDim S8x2048x1 ![0, 1] bcast_S8x2048_S8x2048x1_0_1 (lens x)))
      (broadcastInDim S8x2048x2048 ![0, 1, 2] bcast_S8x1x2048_S8x2048x2048_0_1_2 (broadcastInDim S8x1x2048 ![0, 2] bcast_S8x2048_S8x1x2048_0_2 (lens x))))
    (mulf (broadcastInDim S8x2048x2048 ![] bcast_S_S8x2048x2048 (constant (F := Ideal) S_ .f32 0x40000000#32))
      (Host.dotGeneral dot_S8x2048x3_S8x2048x3_S8x2048x2048_2_2_1_1_0_0 none x x)))
    (broadcastInDim S8x2048x2048 ![] bcast_S_S8x2048x2048 (constant (F := Ideal) S_ .f32 0x00000000#32))

/-- Where a square is positive. -/
def positive (d : FVec Ideal S8x2048x2048 .f32) : IVec S8x2048x2048 1 :=
  cmpf .ogt d (broadcastInDim S8x2048x2048 ![] bcast_S_S8x2048x2048 (constant (F := Ideal) S_ .f32 0x00000000#32))

/-- The roots, guarded at zero. -/
def roots (d : FVec Ideal S8x2048x2048 .f32) : FVec Ideal S8x2048x2048 .f32 :=
  select (positive d)
    (Host.sqrt (select (positive d) d (broadcastInDim S8x2048x2048 ![] bcast_S_S8x2048x2048 (id (constant (F := Ideal) S_ .f32 0x3F800000#32)))))
    (broadcastInDim S8x2048x2048 ![] bcast_S_S8x2048x2048 (id (constant (F := Ideal) S_ .f32 0x00000000#32)))

/-- The energies. -/
def energies (n : IVec S8x2048 32) (x : FVec Ideal S8x2048x3 .f32) (a : IVec S8x2048x2048 32) (k : IVec S8x2048 1) (u : FVec Ideal S100 .f32)
    (w : FVec Ideal S_ .f32) : FVec Ideal S8 .f32 :=
  addf (Host.reduceAdd (mulf (taken u n) (uitofp (F := Ideal) .f32 k)) (constant (F := Ideal) S_ .f32 0x00000000#32) reducesTo_S8x2048_S8_d1 h_S_)
    (mulf (broadcastInDim S8 ![] bcast_S_S8 w)
      (Host.reduceAdd (mulf (mulf (mulf (sitofp (F := Ideal) .f32 a)
            (broadcastInDim S8x2048x2048 ![0, 1, 2] bcast_S8x2048x1_S8x2048x2048_0_1_2 (broadcastInDim S8x2048x1 ![0, 1] bcast_S8x2048_S8x2048x1_0_1 (uitofp (F := Ideal) .f32 k))))
          (broadcastInDim S8x2048x2048 ![0, 1, 2] bcast_S8x1x2048_S8x2048x2048_0_1_2 (broadcastInDim S8x1x2048 ![0, 2] bcast_S8x2048_S8x1x2048_0_2 (uitofp (F := Ideal) .f32 k))))
        (roots (squares x))) (constant (F := Ideal) S_ .f32 0x00000000#32) reducesTo_S8x2048x2048_S8_d1_2 h_S_))

/-! ## At an index -/

variable (n : IVec S8x2048 32) (x : FVec Ideal S8x2048x3 .f32) (a : IVec S8x2048x2048 32) (k : IVec S8x2048 1) (u : FVec Ideal S100 .f32) (w : FVec Ideal S_ .f32)

/-- The species energies, where the indices lie in the table. -/
theorem taken_apply (K : Fin 8 → Fin 2048 → Fin 100) (hK : ∀ b i, n (ix2 b i) = BitVec.ofNat 32 (K b i).val) (b : Fin 8) (i : Fin 2048) :
    taken u n (ix2 b i) = u (ix1 (K b i)) := by
  pointwise [taken, wrapped]
  rw [fold_set]
  · refine (gather_apply _ _ b i (K b i) ?_).trans rfl
    pointwise [wrapped]
    rw [hK, wrap_id]
  · intro y
    rw [hK, wrap_id, bounds_id]

/-- The squared distance of two atoms whose positions are finite. -/
theorem squares_apply (P : Fin 8 → Fin 2048 → Fin 3 → ℝ) (hP : ∀ b i y, x (ix3 b i y) = ((P b i y : ℝ) : EReal)) (b : Fin 8) (i j : Fin 2048) :
    squares x (ix3 b i j) = ((sqDist (P b i) (P b j) : ℝ) : EReal) := by
  pointwise [squares, lens]
  simp only [hP]
  rw [two_f32, gram_sqDist]

/-- The guarded root of a square that is a real and not negative. -/
theorem roots_apply (d : FVec Ideal S8x2048x2048 .f32) (b : Fin 8) (i j : Fin 2048) (s : ℝ) (hs : 0 ≤ s) (h : d (ix3 b i j) = (s : EReal)) :
    roots d (ix3 b i j) = ((Real.sqrt s : ℝ) : EReal) := by
  have hz : id (constant (F := Ideal) S_ .f32 0x00000000#32) ix0 = (0 : EReal) := Ideal.ofBits_zero_f32
  pointwise [roots, positive]
  rw [h, hz]
  exact guarded_sqrt hs _

/-- With the indices in the table and the positions finite, a molecule's energy is the sum of its atoms' species energies, and
    the weight times the sum over its pairs of adjacency, masks and distance. -/
theorem energies_apply (K : Fin 8 → Fin 2048 → Fin 100) (hK : ∀ b i, n (ix2 b i) = BitVec.ofNat 32 (K b i).val)
    (P : Fin 8 → Fin 2048 → Fin 3 → ℝ) (hP : ∀ b i y, x (ix3 b i y) = ((P b i y : ℝ) : EReal)) (b : Fin 8) :
    energies n x a k u w (ix1 b)
      = (∑ i : Fin 2048, u (ix1 (K b i)) * FloatOps.uitofp (F := Ideal) .f32 (k (ix2 b i)))
        + w ix0 * ∑ i : Fin 2048, ∑ j : Fin 2048, FloatOps.sitofp (F := Ideal) .f32 (a (ix3 b i j))
          * FloatOps.uitofp (F := Ideal) .f32 (k (ix2 b i)) * FloatOps.uitofp (F := Ideal) .f32 (k (ix2 b j))
          * ((Real.sqrt (sqDist (P b i) (P b j)) : ℝ) : EReal) := by
  have h1 := fun i => taken_apply n u K hK b i
  have h2 := fun i j => roots_apply (squares x) b i j _ (sqDist_nonneg _ _) (squares_apply x P hP b i j)
  revert h1 h2
  unfold energies
  generalize taken u n = T
  generalize roots (squares x) = D
  intro h1 h2
  pointwise
  simp only [h1, h2]

end Cert.Proof.Exact
-- ==== Proof.Exact.Read.lean ====
/- What the reference computes, read at a molecule. -/
module

public import proofs.«01_k».proof.Proof.Exact.Energies
public import Idealize.ShloMosaic.Lib.Tactic.CleanTypes
public import Idealize.ShloMosaic.Lib.Quiescent
public import Idealize.ShloMosaic.Lib.Claim

@[expose] public section

set_option maxRecDepth 16384

noncomputable section

namespace Cert.Proof.Exact

open Idealize.ShloMosaic Cert.ReferenceIdeal Cert.ReferenceIdeal.Gen

variable (m : (ℓ : Loc nD τ sig) → Buf (Elt Ideal) ℓ) (c : Dev nD)

/-- The species index of every atom. -/
abbrev ids : IVec S8x2048 32 := m ((c.tc : Thread nD τ).loc main_arg0)
/-- The atoms' positions. -/
abbrev pos : FVec Ideal S8x2048x3 .f32 := m ((c.tc : Thread nD τ).loc main_arg1)
/-- The adjacency of every molecule. -/
abbrev adj : IVec S8x2048x2048 32 := m ((c.tc : Thread nD τ).loc main_arg2)
/-- The mask of the atoms that are there. -/
abbrev msk : IVec S8x2048 1 := m ((c.tc : Thread nD τ).loc main_arg3)
/-- The energy of each species. -/
abbrev spe : FVec Ideal S100 .f32 := m ((c.tc : Thread nD τ).loc main_arg4)
/-- The weight of the pair term. -/
abbrev pwt : FVec Ideal S_ .f32 := m ((c.tc : Thread nD τ).loc main_arg5)

set_option maxHeartbeats 4000000 in
/-- With the indices in the table and the positions finite, the reference's energy of a molecule is the sum of its atoms' species
    energies, and the weight times the sum over its pairs of adjacency, masks and distance. -/
theorem res_apply (K : Fin 8 → Fin 2048 → Fin 100) (hK : ∀ b n, ids m c (ix2 b n) = BitVec.ofNat 32 (K b n).val)
    (P : Fin 8 → Fin 2048 → Fin 3 → ℝ) (hP : ∀ b n x, pos m c (ix3 b n x) = ((P b n x : ℝ) : EReal)) (b : Fin 8) :
    (Cert.ReferenceIdeal.Value.res_main_v35 m c : FVec Ideal S8 .f32) (ix1 b)
      = (∑ n : Fin 2048, spe m c (ix1 (K b n)) * FloatOps.uitofp (F := Ideal) .f32 (msk m c (ix2 b n)))
        + pwt m c ix0 * ∑ n : Fin 2048, ∑ k : Fin 2048, FloatOps.sitofp (F := Ideal) .f32 (adj m c (ix3 b n k))
          * FloatOps.uitofp (F := Ideal) .f32 (msk m c (ix2 b n)) * FloatOps.uitofp (F := Ideal) .f32 (msk m c (ix2 b k))
          * ((Real.sqrt (sqDist (P b n) (P b k)) : ℝ) : EReal) :=
  (congrFun (show (Cert.ReferenceIdeal.Value.res_main_v35 m c : FVec Ideal S8 .f32)
    = energies (ids m c) (pos m c) (adj m c) (msk m c) (spe m c) (pwt m c) from rfl) _).trans
    (energies_apply _ _ _ _ _ _ K hK P hP b)

/-- The reference's run: its result, and the arguments unchanged. -/
theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, sem_eq_zero_of_no_sems rfl r.2⟩) (Cert.ReferenceIdeal.Value.run m ρ)

end Cert.Proof.Exact
-- ==== Proof.Softened.Read.lean ====
/- What the softened reference computes, read at a molecule. -/
module

public import proofs.«01_k».proof.Proof.Exact.Read
public import proofs.«01_k».proof.Proof.Gen.SoftenedIdeal.Run
public import proofs.«01_k».proof.Proof.Maths
public import Idealize.ShloMosaic.Lib.Tactic.CleanTypes
public import Idealize.ShloMosaic.Lib.IdealHost
public import Idealize.ShloMosaic.Lib.Quiescent
public import Idealize.ShloMosaic.Lib.Claim

@[expose] public section

set_option maxRecDepth 16384

noncomputable section

namespace Cert.Proof.Softened

open Idealize.ShloMosaic Cert.SoftenedIdeal Cert.SoftenedIdeal.Gen

variable (m : (ℓ : Loc nD τ sig) → Buf (Elt Ideal) ℓ) (c : Dev nD)

/-- The species index of every atom. -/
abbrev ids : IVec S8x2048 32 := m ((c.tc : Thread nD τ).loc main_arg0)
/-- The atoms' positions. -/
abbrev pos : FVec Ideal S8x2048x3 .f32 := m ((c.tc : Thread nD τ).loc main_arg1)
/-- The adjacency of every molecule. -/
abbrev adj : IVec S8x2048x2048 32 := m ((c.tc : Thread nD τ).loc main_arg2)
/-- The mask of the atoms that are there. -/
abbrev msk : IVec S8x2048 1 := m ((c.tc : Thread nD τ).loc main_arg3)
/-- The energy of each species. -/
abbrev spe : FVec Ideal S100 .f32 := m ((c.tc : Thread nD τ).loc main_arg4)
/-- The weight of the pair term. -/
abbrev pwt : FVec Ideal S_ .f32 := m ((c.tc : Thread nD τ).loc main_arg5)

/-! ## The reference's lines: those for the species energies and the squared lengths are the exact reference's -/

/-- The softened distances. -/
def dists (x : FVec Ideal S8x2048x3 .f32) (k : IVec S8x2048 1) : FVec Ideal S8x2048x2048 .f32 :=
  Host.sqrt (select (broadcastInDim S8x2048x2048 ![0, 1, 2] bcast_S8x2048x1_S8x2048x2048_0_1_2 (broadcastInDim S8x2048x1 ![0, 1] bcast_S8x2048_S8x2048x1_0_1 k))
    (addf (maximumf (subf (addf
          (broadcastInDim S8x2048x2048 ![0, 1, 2] bcast_S8x2048x1_S8x2048x2048_0_1_2 (broadcastInDim S8x2048x1 ![0, 1] bcast_S8x2048_S8x2048x1_0_1 (Exact.lens x)))
          (broadcastInDim S8x2048x2048 ![0, 1, 2] bcast_S8x1x2048_S8x2048x2048_0_1_2 (broadcastInDim S8x1x2048 ![0, 2] bcast_S8x2048_S8x1x2048_0_2 (Exact.lens x))))
        (mulf (broadcastInDim S8x2048x2048 ![] bcast_S_S8x2048x2048 (constant (F := Ideal) S_ .f32 0x40000000#32))
          (Host.dotGeneral dot_S8x2048x3_S8x2048x3_S8x2048x2048_2_2_1_1_0_0 none x x)))
        (broadcastInDim S8x2048x2048 ![] bcast_S_S8x2048x2048 (constant (F := Ideal) S_ .f32 0x00000000#32)))
      (broadcastInDim S8x2048x2048 ![] bcast_S_S8x2048x2048 (constant (F := Ideal) S_ .f32 0x3951B717#32)))
    (broadcastInDim S8x2048x2048 ![] bcast_S_S8x2048x2048 (id (constant (F := Ideal) S_ .f32 0x2B8CBCCC#32))))

/-- The energies. -/
def res : FVec Ideal S8 .f32 :=
  addf (Host.reduceAdd (mulf (Exact.taken (spe m c) (ids m c)) (uitofp (F := Ideal) .f32 (msk m c))) (constant (F := Ideal) S_ .f32 0x00000000#32) reducesTo_S8x2048_S8_d1 h_S_)
    (mulf (broadcastInDim S8 ![] bcast_S_S8 (pwt m c))
      (Host.reduceAdd (mulf (mulf (sitofp (F := Ideal) .f32 (adj m c))
          (broadcastInDim S8x2048x2048 ![0, 1, 2] bcast_S8x1x2048_S8x2048x2048_0_1_2 (broadcastInDim S8x1x2048 ![0, 2] bcast_S8x2048_S8x1x2048_0_2 (uitofp (F := Ideal) .f32 (msk m c)))))
        (dists (pos m c) (msk m c))) (constant (F := Ideal) S_ .f32 0x00000000#32) reducesTo_S8x2048x2048_S8_d1_2 h_S_))

set_option maxHeartbeats 4000000 in
/-- The reference's run: its result, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v30) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Cert.SoftenedIdeal.Value.run m ρ)

/-- The softened distance of two atoms whose positions are finite: √(distance² + 0.0002) where the mask keeps the first of them,
    and √10⁻¹² where it does not (both constants being the rationals that the float words are). -/
theorem dists_apply (P : Fin 8 → Fin 2048 → Fin 3 → ℝ) (hP : ∀ b n x, pos m c (ix3 b n x) = ((P b n x : ℝ) : EReal)) (b : Fin 8) (n k : Fin 2048) :
    dists (pos m c) (msk m c) (ix3 b n k) = Ideal.sqrt (Scalar.select (msk m c (ix2 b n))
      (((sqDist (P b n) (P b k) : ℝ) : EReal) + Ideal.ofBits .f32 0x3951B717#32) (Ideal.ofBits .f32 0x2B8CBCCC#32)) := by
  have hP' : ∀ b n x, m ((c.tc : Thread nD τ).loc main_arg1) (ix3 b n x) = ((P b n x : ℝ) : EReal) := hP
  pointwise [dists, Exact.lens]
  simp only [hP']
  rw [Exact.two_f32, gram_sqDist]
  rfl

/-- A molecule's energy: the sum of its atoms' species energies, and the weight times the sum over its pairs of adjacency, mask and softened distance. -/
theorem res_apply (K : Fin 8 → Fin 2048 → Fin 100) (hK : ∀ b n, ids m c (ix2 b n) = BitVec.ofNat 32 (K b n).val)
    (P : Fin 8 → Fin 2048 → Fin 3 → ℝ) (hP : ∀ b n x, pos m c (ix3 b n x) = ((P b n x : ℝ) : EReal)) (b : Fin 8) :
    res m c (ix1 b)
      = (∑ n : Fin 2048, spe m c (ix1 (K b n)) * FloatOps.uitofp (F := Ideal) .f32 (msk m c (ix2 b n)))
        + pwt m c ix0 * ∑ n : Fin 2048, ∑ k : Fin 2048, FloatOps.sitofp (F := Ideal) .f32 (adj m c (ix3 b n k))
          * FloatOps.uitofp (F := Ideal) .f32 (msk m c (ix2 b k))
          * Ideal.sqrt (Scalar.select (msk m c (ix2 b n))
              (((sqDist (P b n) (P b k) : ℝ) : EReal) + Ideal.ofBits .f32 0x3951B717#32) (Ideal.ofBits .f32 0x2B8CBCCC#32)) := by
  have h1 := fun n => Exact.taken_apply (ids m c) (spe m c) K hK b n
  have h2 := fun n k => dists_apply m c P hP b n k
  revert h1 h2
  unfold res
  generalize Exact.taken (spe m c) (ids m c) = T
  generalize dists (pos m c) (msk m c) = D
  intro h1 h2
  pointwise
  simp only [h1, h2]

/-- The arguments end unchanged and no semaphore counts. -/
theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, sem_eq_zero_of_no_sems rfl r.2⟩) (run m ρ)

end Cert.Proof.Softened
-- ==== Proof.Ring.Algebraic.lean ====
/- The optimised kernel and the softened reference compute the same energies. -/
module

public import proofs.«01_k».proof.Defs
public import proofs.«01_k».proof.Proof.Sane
public import proofs.«01_k».proof.Proof.Ring.Equation
public import proofs.«01_k».proof.Proof.Softened.Read

@[expose] public section

set_option maxRecDepth 16384

noncomputable section

namespace Cert.Proof.Ring

open Idealize.ShloMosaic Cert.KernelIdeal Cert.KernelIdeal.Gen

/-- Under the precondition, from memories that agree on the arguments, the two results are equal. -/
theorem result_eq (m : (ℓ : Loc Cert.KernelIdeal.nD Cert.KernelIdeal.τ Cert.KernelIdeal.sig) → Buf (Elt Ideal) ℓ)
    (m' : (ℓ : Loc Cert.SoftenedIdeal.nD Cert.SoftenedIdeal.τ Cert.SoftenedIdeal.sig) → Buf (Elt Ideal) ℓ)
    (h : Cert.Pre_KernelIdeal_sane m) (c : Dev Cert.KernelIdeal.nD)
    (e0 : Softened.ids m' c = ids m c) (e1 : Softened.pos m' c = pos m c) (e2 : Softened.adj m' c = adj m c)
    (e3 : Softened.msk m' c = msk m c) (e4 : Softened.spe m' c = spe m c) (e5 : Softened.pwt m' c = pwt m c) :
    Softened.res m' c = result m c := by
  obtain ⟨h0, h1, h2⟩ := h c
  choose K hK using sane_ids _ _ _ _ _ _ h0
  choose P hP using sane_pos _ _ _ _ _ _ h1
  obtain ⟨w, hw⟩ := sane_weight _ _ _ _ _ _ h2
  funext i
  obtain ⟨b, rfl⟩ : ∃ b : Fin 8, i = ix1 b := ⟨i 0, eq_ix1 i⟩
  rw [Softened.res_apply m' c K (fun b n => by rw [e0]; exact hK b n) P (fun b n x => by rw [e1]; exact hP b n x) b, e2, e3, e4, e5]
  exact (energy_eq m c K hK P hP w hw b).symm

/-- The algebraic claim. -/
theorem algebraic : Cert.algebraic_KernelIdeal_SoftenedIdeal_pre_sane := by
  intro m g m' g' hpre hag
  refine ⟨fun c => result m c, run m g, (θ_run Cert.SoftenedIdeal.defs _ _).mono (fun r hr c => ⟨?_, (hr c).2⟩) (Softened.run m' g')⟩
  obtain ⟨e0, e1, e2, e3, e4, e5⟩ := hag c
  exact (hr c).1.trans (result_eq m m' hpre c e0 e1 e2 e3 e4 e5)

end Cert.Proof.Ring
-- ==== Proof.Ring.Close.lean ====
/- How far the optimised kernel's energies are from the exact reference's. -/
module

public import proofs.«01_k».proof.Defs
public import proofs.«01_k».proof.Proof.Gen.Post_close
public import proofs.«01_k».proof.Proof.Sane
public import proofs.«01_k».proof.Proof.Ring.Equation
public import proofs.«01_k».proof.Proof.Exact.Energies

@[expose] public section

set_option maxRecDepth 16384

noncomputable section

namespace Cert.Proof.Ring

open Idealize.ShloMosaic Cert.KernelIdeal Cert.KernelIdeal.Gen

/-! ## The two slacks -/

/-- The float nearest 0.01415: a little more than the root of `eps`. -/
def near : ℝ := 15193447 / 2 ^ 30
/-- The float nearest 1.001·10⁻⁶: a little more than the root of `del`. -/
def tiny : ℝ := 8804889 / 2 ^ 43

theorem near_f32 : Ideal.ofBits .f32 0x3C67D567#32 = ((near : ℝ) : EReal) := by
  simp [Ideal.ofBits, Ideal.ieee, near, -EReal.coe_mul]; norm_num
theorem tiny_f32 : Ideal.ofBits .f32 0x35865A19#32 = ((tiny : ℝ) : EReal) := by
  simp [Ideal.ofBits, Ideal.ieee, tiny, -EReal.coe_mul]; norm_num
theorem near_sq : eps ≤ near ^ 2 := by unfold near eps; norm_num
theorem tiny_sq : del ≤ tiny ^ 2 := by unfold tiny del; norm_num
theorem near_pos : 0 < near := by unfold near; norm_num
theorem tiny_pos : 0 < tiny := by unfold tiny; norm_num

/-- Softening a square that is not negative adds at most `near` to its root. -/
theorem soft_near {s : ℝ} (h : 0 ≤ s) : |Real.sqrt (s + eps) - Real.sqrt s| ≤ near := by
  have he : 0 ≤ eps := del_pos.le.trans del_le_eps
  have hn := near_pos
  have h1 : Real.sqrt s ≤ Real.sqrt (s + eps) := Real.sqrt_le_sqrt (by linarith)
  have h2 : Real.sqrt (s + eps) ≤ Real.sqrt s + near := by
    refine Real.sqrt_le_iff.mpr ⟨by positivity, ?_⟩
    have := Real.sq_sqrt h
    have := near_sq
    nlinarith [Real.sqrt_nonneg s]
  rw [abs_of_nonneg (by linarith)]
  linarith

/-- The root of the floor is at most `tiny`. -/
theorem floor_tiny : Real.sqrt del ≤ tiny := Real.sqrt_le_iff.mpr ⟨tiny_pos.le, tiny_sq⟩

/-! ## The postcondition's lines -/

/-- The room: the weight's absolute value times the sum over pairs of the adjacency's absolute value, the column's mask and the row's slack. -/
def room (a : IVec S8x2048x2048 32) (k : IVec S8x2048 1) (w : FVec Ideal S_ .f32) : FVec Ideal S8 .f32 :=
  mulf (broadcastInDim S8 ![] Cert.Post_close.Gen.bcast_S_S8 (Host.absf w))
    (Host.reduceAdd (mulf (mulf (Host.absf (sitofp (F := Ideal) .f32 a))
        (broadcastInDim S8x2048x2048 ![0, 1, 2] Cert.Post_close.Gen.bcast_S8x1x2048_S8x2048x2048_0_1_2 (broadcastInDim S8x1x2048 ![0, 2] Cert.Post_close.Gen.bcast_S8x2048_S8x1x2048_0_2 (uitofp (F := Ideal) .f32 k))))
      (broadcastInDim S8x2048x2048 ![0, 1, 2] Cert.Post_close.Gen.bcast_S8x2048x1_S8x2048x2048_0_1_2
        (select (broadcastInDim S8x2048x1 ![0, 1] Cert.Post_close.Gen.bcast_S8x2048_S8x2048x1_0_1 k)
          (broadcastInDim S8x2048x1 ![] Cert.Post_close.Gen.bcast_S_S8x2048x1 (constant (F := Ideal) S_ .f32 0x3C67D567#32))
          (broadcastInDim S8x2048x1 ![] Cert.Post_close.Gen.bcast_S_S8x2048x1 (constant (F := Ideal) S_ .f32 0x35865A19#32)))))
      (constant (F := Ideal) S_ .f32 0x00000000#32) Cert.Post_close.Gen.reducesTo_S8x2048x2048_S8_d1_2 Cert.Post_close.Gen.h_S_)

variable (n : IVec S8x2048 32) (x : FVec Ideal S8x2048x3 .f32) (a : IVec S8x2048x2048 32) (k : IVec S8x2048 1) (u : FVec Ideal S100 .f32)
  (w : FVec Ideal S_ .f32) (y : FVec Ideal S8 .f32)

set_option maxHeartbeats 4000000 in
/-- The postcondition compares the energies with the exact ones less the room and plus the room. -/
theorem post_eq : Cert.Post_close.fn (F := Ideal) n x a k u w y
    = andi (cmpf .ole (subf (Exact.energies n x a k u w) (room a k w)) y) (cmpf .ole y (addf (Exact.energies n x a k u w) (room a k w))) := by
  rfl

/-- The room of a molecule. -/
theorem room_apply (b : Fin 8) : room a k w (ix1 b)
    = (FloatOps.absf (F := Ideal) (φ := .f32) (w ix0) * ∑ i : Fin 2048, ∑ j : Fin 2048, FloatOps.absf (F := Ideal) (φ := .f32) (FloatOps.sitofp (F := Ideal) .f32 (a (ix3 b i j)))
        * FloatOps.uitofp (F := Ideal) .f32 (k (ix2 b j))
        * Scalar.select (k (ix2 b i)) (Ideal.ofBits .f32 0x3C67D567#32) (Ideal.ofBits .f32 0x35865A19#32) : EReal) := by
  pointwise [room]

/-- What the postcondition asks of a molecule's energy. -/
theorem post_apply (b : Fin 8) (h1 : (Exact.energies n x a k u w (ix1 b) - room a k w (ix1 b) : EReal) ≤ y (ix1 b))
    (h2 : (y (ix1 b) : EReal) ≤ Exact.energies n x a k u w (ix1 b) + room a k w (ix1 b)) : Cert.Post_close.fn (F := Ideal) n x a k u w y (ix1 b) = 1#1 := by
  rw [post_eq]
  revert h1 h2
  generalize Exact.energies n x a k u w = E
  generalize room a k w = G
  intro h1 h2
  pointwise
  rw [decide_eq_true h1, decide_eq_true h2]
  rfl

/-! ## The bound -/

variable (m : (ℓ : Loc nD τ sig) → Buf (Elt Ideal) ℓ) (c : Dev nD)

/-- The absolute value of a real. -/
theorem absf_coe (r : ℝ) : FloatOps.absf (F := Ideal) (φ := .f32) (r : EReal) = ((|r| : ℝ) : EReal) := by
  show max (r : EReal) (-(r : EReal)) = _
  rw [← EReal.coe_neg, coe_max']
  rfl

/-- The slack of an atom's row. -/
def slack (b : Fin 8) (i : Fin 2048) : ℝ := if msk m c (ix2 b i) = 1#1 then near else tiny

/-- The softened root and the masked exact one differ by the row's slack at most. -/
theorem dist_close (P : Fin 8 → Fin 2048 → Fin 3 → ℝ) (b : Fin 8) (i j : Fin 2048) :
    |Real.sqrt (sqR m c P b i j) - ((msk m c (ix2 b i)).toNat : ℝ) * Real.sqrt (sqDist (P b i) (P b j))| ≤ slack m c b i := by
  unfold sqR slack
  rcases bit_cases (msk m c (ix2 b i)) with h | h <;> rw [h]
  · rw [if_neg (by decide), if_neg (by decide), show (((0#1 : BitVec 1).toNat : ℝ)) = 0 by norm_num, zero_mul, sub_zero, abs_of_nonneg (Real.sqrt_nonneg _)]
    exact floor_tiny
  · rw [if_pos rfl, if_pos rfl, show (((1#1 : BitVec 1).toNat : ℝ)) = 1 by norm_num, one_mul]
    exact soft_near (sqDist_nonneg _ _)

/-- The softened pair sum, the exact one and the sum of the slacks, over the reals. -/
def softSum (P : Fin 8 → Fin 2048 → Fin 3 → ℝ) (b : Fin 8) : ℝ :=
  ∑ i : Fin 2048, ∑ j : Fin 2048, ((adj m c (ix3 b i j)).toInt : ℝ) * ((msk m c (ix2 b j)).toNat : ℝ) * Real.sqrt (sqR m c P b i j)
def exactSum (P : Fin 8 → Fin 2048 → Fin 3 → ℝ) (b : Fin 8) : ℝ :=
  ∑ i : Fin 2048, ∑ j : Fin 2048, ((adj m c (ix3 b i j)).toInt : ℝ) * ((msk m c (ix2 b i)).toNat : ℝ) * ((msk m c (ix2 b j)).toNat : ℝ)
    * Real.sqrt (sqDist (P b i) (P b j))
def slackSum (b : Fin 8) : ℝ :=
  ∑ i : Fin 2048, ∑ j : Fin 2048, |((adj m c (ix3 b i j)).toInt : ℝ)| * ((msk m c (ix2 b j)).toNat : ℝ) * slack m c b i

theorem sums_close (P : Fin 8 → Fin 2048 → Fin 3 → ℝ) (b : Fin 8) : |softSum m c P b - exactSum m c P b| ≤ slackSum m c b := by
  unfold softSum exactSum slackSum
  rw [← Finset.sum_sub_distrib]
  refine (Finset.abs_sum_le_sum_abs _ _).trans (Finset.sum_le_sum fun i _ => ?_)
  rw [← Finset.sum_sub_distrib]
  refine (Finset.abs_sum_le_sum_abs _ _).trans (Finset.sum_le_sum fun j _ => ?_)
  have e : ((adj m c (ix3 b i j)).toInt : ℝ) * ((msk m c (ix2 b j)).toNat : ℝ) * Real.sqrt (sqR m c P b i j)
      - ((adj m c (ix3 b i j)).toInt : ℝ) * ((msk m c (ix2 b i)).toNat : ℝ) * ((msk m c (ix2 b j)).toNat : ℝ) * Real.sqrt (sqDist (P b i) (P b j))
      = ((adj m c (ix3 b i j)).toInt : ℝ) * ((msk m c (ix2 b j)).toNat : ℝ)
        * (Real.sqrt (sqR m c P b i j) - ((msk m c (ix2 b i)).toNat : ℝ) * Real.sqrt (sqDist (P b i) (P b j))) := by ring
  rw [e, abs_mul, abs_mul, Nat.abs_cast]
  exact mul_le_mul_of_nonneg_left (dist_close m c P b i j) (by positivity)

/-- A sum over pairs of reals, written in the extended reals. -/
theorem coe_sum_sum (f : Fin 2048 → Fin 2048 → ℝ) : ((∑ i, ∑ j, f i j : ℝ) : EReal) = ∑ i, ∑ j, (f i j : EReal) := by
  rw [coe_sum]
  exact Finset.sum_congr rfl fun i _ => coe_sum _ _

/-- An extended real plus a real, less and plus a real. -/
theorem within {S : EReal} {p q r : ℝ} (h : |q - p| ≤ r) : S + (p : EReal) - (r : EReal) ≤ S + (q : EReal) ∧ S + (q : EReal) ≤ S + (p : EReal) + (r : EReal) := by
  obtain ⟨h1, h2⟩ := abs_le.mp h
  constructor
  · rw [sub_eq_add_neg, add_assoc, ← EReal.coe_neg, ← EReal.coe_add]
    exact add_le_add le_rfl (EReal.coe_le_coe_iff.mpr (by linarith))
  · rw [add_assoc, ← EReal.coe_add]
    exact add_le_add le_rfl (EReal.coe_le_coe_iff.mpr (by linarith))

/-- THE BOUND: a molecule's energy lies within the room about the exact one. -/
theorem energy_close (K : Fin 8 → Fin 2048 → Fin 100) (hK : ∀ b n, ids m c (ix2 b n) = BitVec.ofNat 32 (K b n).val)
    (P : Fin 8 → Fin 2048 → Fin 3 → ℝ) (hP : ∀ b n x, pos m c (ix3 b n x) = ((P b n x : ℝ) : EReal))
    (v : ℝ) (hv : pwt m c ix0 = (v : EReal)) (b : Fin 8) :
    (Exact.energies (ids m c) (pos m c) (adj m c) (msk m c) (spe m c) (pwt m c) (ix1 b) - room (adj m c) (msk m c) (pwt m c) (ix1 b) : EReal) ≤ energy m c b
      ∧ (energy m c b : EReal) ≤ Exact.energies (ids m c) (pos m c) (adj m c) (msk m c) (spe m c) (pwt m c) (ix1 b) + room (adj m c) (msk m c) (pwt m c) (ix1 b) := by
  have hx := Exact.energies_apply (ids m c) (pos m c) (adj m c) (msk m c) (spe m c) (pwt m c) K hK P hP b
  have hr := room_apply (adj m c) (msk m c) (pwt m c) b
  have hs : (∑ n : Fin 2048, ∑ j : Fin 2048, FloatOps.sitofp (F := Ideal) .f32 (adj m c (ix3 b n j)) * mk m c b j
          * Ideal.sqrt (Scalar.select (msk m c (ix2 b n))
              (((sqDist (P b n) (P b j) : ℝ) : EReal) + Ideal.ofBits .f32 0x3951B717#32) (Ideal.ofBits .f32 0x2B8CBCCC#32)) : EReal)
      = ((softSum m c P b : ℝ) : EReal) := by
    unfold softSum
    rw [coe_sum_sum]
    refine Finset.sum_congr rfl fun i _ => Finset.sum_congr rfl fun j _ => ?_
    rw [soft_eq, EReal.coe_mul, EReal.coe_mul]
    rfl
  have he : (∑ i : Fin 2048, ∑ j : Fin 2048, FloatOps.sitofp (F := Ideal) .f32 (adj m c (ix3 b i j))
          * FloatOps.uitofp (F := Ideal) .f32 (msk m c (ix2 b i)) * FloatOps.uitofp (F := Ideal) .f32 (msk m c (ix2 b j))
          * ((Real.sqrt (sqDist (P b i) (P b j)) : ℝ) : EReal) : EReal) = ((exactSum m c P b : ℝ) : EReal) := by
    unfold exactSum
    rw [coe_sum_sum]
    refine Finset.sum_congr rfl fun i _ => Finset.sum_congr rfl fun j _ => ?_
    rw [EReal.coe_mul, EReal.coe_mul, EReal.coe_mul]
    rfl
  have hg : (∑ i : Fin 2048, ∑ j : Fin 2048, FloatOps.absf (F := Ideal) (φ := .f32) (FloatOps.sitofp (F := Ideal) .f32 (adj m c (ix3 b i j)))
        * FloatOps.uitofp (F := Ideal) .f32 (msk m c (ix2 b j))
        * Scalar.select (msk m c (ix2 b i)) (Ideal.ofBits .f32 0x3C67D567#32) (Ideal.ofBits .f32 0x35865A19#32) : EReal) = ((slackSum m c b : ℝ) : EReal) := by
    unfold slackSum
    rw [coe_sum_sum]
    refine Finset.sum_congr rfl fun i _ => Finset.sum_congr rfl fun j _ => ?_
    rw [EReal.coe_mul, EReal.coe_mul, ← absf_coe]
    refine congrArg₂ (· * ·) rfl ?_
    unfold slack
    rcases bit_cases (msk m c (ix2 b i)) with h | h <;> rw [h, near_f32, tiny_f32]
    · rw [if_neg (by decide)]; rfl
    · rw [if_pos rfl]; rfl
  rw [he, hv, ← EReal.coe_mul] at hx
  rw [hg, hv, absf_coe, ← EReal.coe_mul] at hr
  have hy := energy_eq m c K hK P hP v hv b
  rw [hs, hv, ← EReal.coe_mul] at hy
  rw [hx, hr, hy]
  refine within ?_
  rw [← mul_sub, abs_mul]
  exact mul_le_mul_of_nonneg_left (sums_close m c P b) (abs_nonneg v)

/-- The claim: the kernel ends, its arguments are unchanged, and every energy lies within the room about the exact reference's. -/
theorem holds : Cert.holds_KernelIdeal_close_pre_sane := by
  intro m g hpre
  refine (θ_run Cert.KernelIdeal.defs _ _).mono (fun r hr c => ?_) (run m g)
  obtain ⟨h0, h1, h2⟩ := hpre c
  choose K hK using sane_ids _ _ _ _ _ _ h0
  choose P hP using sane_pos _ _ _ _ _ _ h1
  obtain ⟨v, hv⟩ := sane_weight _ _ _ _ _ _ h2
  obtain ⟨e, a0, a1, a2, a3, a4, a5⟩ := hr c
  refine ⟨a0, a1, a2, a3, a4, a5, ?_⟩
  rw [e]
  funext i
  obtain ⟨b, rfl⟩ : ∃ b : Fin 8, i = ix1 b := ⟨i 0, eq_ix1 i⟩
  obtain ⟨q1, q2⟩ := energy_close m c K hK P hP v hv b
  exact post_apply _ _ _ _ _ _ _ b q1 q2

end Cert.Proof.Ring
-- ==== Proof.Simple.Algebraic.lean ====
/- The kernel and the reference compute the same energies. -/
module

public import proofs.«01_k».proof.Defs
public import proofs.«01_k».proof.Proof.Sane
public import proofs.«01_k».proof.Proof.Simple.Equation
public import proofs.«01_k».proof.Proof.Exact.Read

@[expose] public section

set_option maxRecDepth 16384

noncomputable section

namespace Cert.Proof.Simple

open Idealize.ShloMosaic Cert.SimpleIdeal Cert.SimpleIdeal.Gen

/-- Under the precondition, from memories that agree on the arguments, the two results are equal. -/
theorem result_eq (m : (ℓ : Loc Cert.SimpleIdeal.nD Cert.SimpleIdeal.τ Cert.SimpleIdeal.sig) → Buf (Elt Ideal) ℓ)
    (m' : (ℓ : Loc Cert.ReferenceIdeal.nD Cert.ReferenceIdeal.τ Cert.ReferenceIdeal.sig) → Buf (Elt Ideal) ℓ)
    (h : Cert.Pre_SimpleIdeal_sane m) (c : Dev Cert.SimpleIdeal.nD)
    (e0 : Exact.ids m' c = ids m c) (e1 : Exact.pos m' c = pos m c) (e2 : Exact.adj m' c = adj m c)
    (e3 : Exact.msk m' c = msk m c) (e4 : Exact.spe m' c = spe m c) (e5 : Exact.pwt m' c = pwt m c) :
    (Cert.ReferenceIdeal.Value.res_main_v35 m' c : FVec Ideal S8 .f32) = result m c := by
  obtain ⟨h0, h1, h2⟩ := h c
  choose K hK using sane_ids _ _ _ _ _ _ h0
  choose P hP using sane_pos _ _ _ _ _ _ h1
  obtain ⟨w, hw⟩ := sane_weight _ _ _ _ _ _ h2
  funext i
  obtain ⟨b, rfl⟩ : ∃ b : Fin 8, i = ix1 b := ⟨i 0, eq_ix1 i⟩
  rw [Exact.res_apply m' c K (fun b n => by rw [e0]; exact hK b n) P (fun b n x => by rw [e1]; exact hP b n x) b, e2, e3, e4, e5]
  exact (energy_eq m c K hK P hP w hw b).symm

/-- The algebraic claim. -/
theorem algebraic : Cert.algebraic_SimpleIdeal_ReferenceIdeal_pre_sane := by
  intro m g m' g' hpre hag
  refine ⟨fun c => result m c, run m g, (θ_run Cert.ReferenceIdeal.defs _ _).mono (fun r hr c => ⟨?_, (hr c).2⟩) (Cert.ReferenceIdeal.Value.run m' g')⟩
  obtain ⟨e0, e1, e2, e3, e4, e5⟩ := hag c
  exact (hr c).1.trans (result_eq m m' hpre c e0 e1 e2 e3 e4 e5)

end Cert.Proof.Simple
-- ==== Proof.lean ====
/- The certificate's claims, each from the module that proves it: the optimised kernel's frames (Proof/Ring/Frame.lean) and its
   equation with the softened reference (Proof/Ring/Algebraic.lean), the bound on its distance from the exact reference
   (Proof/Ring/Close.lean), the simple kernel's frames (generated) and its equation with the exact reference
   (Proof/Simple/Algebraic.lean), and the two references' frames (Proof/Softened/Read.lean, Proof/Exact/Read.lean). -/
module

public import proofs.«01_k».proof.Defs
public import proofs.«01_k».proof.Proof.Gen.Kernel
public import proofs.«01_k».proof.Proof.Gen.Kernel.Frame
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Loops
public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.SoftenedIdeal
public import proofs.«01_k».proof.Proof.Gen.SoftenedIdeal.Run
public import proofs.«01_k».proof.Proof.Gen.Simple
public import proofs.«01_k».proof.Proof.Gen.Simple.Skeleton
public import proofs.«01_k».proof.Proof.Gen.Simple.Launch
public import proofs.«01_k».proof.Proof.Gen.Simple.Points
public import proofs.«01_k».proof.Proof.Gen.Simple.Frame
public import proofs.«01_k».proof.Proof.Gen.SimpleIdeal
public import proofs.«01_k».proof.Proof.Gen.SimpleIdeal.Skeleton
public import proofs.«01_k».proof.Proof.Gen.SimpleIdeal.Launch
public import proofs.«01_k».proof.Proof.Gen.SimpleIdeal.Points
public import proofs.«01_k».proof.Proof.Gen.SimpleIdeal.Frame
public import proofs.«01_k».proof.Proof.Gen.ReferenceIdeal
public import proofs.«01_k».proof.Proof.Gen.Pre_sane
public import proofs.«01_k».proof.Proof.Gen.Post_close
public import proofs.«01_k».proof.Proof.Gen.ReferenceIdeal.Run
public import proofs.«01_k».proof.Proof.Ring.Frame
public import proofs.«01_k».proof.Proof.Ring.Algebraic
public import proofs.«01_k».proof.Proof.Ring.Close
public import proofs.«01_k».proof.Proof.Simple.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.SoftenedIdeal.Gen.facts,
  Cert.Simple.Gen.facts, Cert.SimpleIdeal.Gen.facts, Cert.ReferenceIdeal.Gen.facts, Cert.Pre_sane.Gen.facts, Cert.Post_close.Gen.facts,
  Ring.frame_bits, fun m ρ _ => Ring.frame (F := Ideal) m ρ, fun m ρ _ => Ring.frame (F := Ideal) m ρ,
  fun m ρ _ => Softened.frame m ρ, fun m ρ _ => Softened.frame m ρ,
  fun m ρ _ => Cert.Simple.Gen.frame m ρ, fun m ρ _ => Cert.SimpleIdeal.Gen.frame m ρ, fun m ρ _ => Cert.SimpleIdeal.Gen.frame m ρ,
  fun m ρ _ => Exact.frame m ρ, fun m ρ _ => Exact.frame m ρ,
  trivial, Ring.algebraic, Ring.holds, trivial, Simple.algebraic⟩

end Cert.Proof

end
